-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![32768, 1024]⟩ ⟨2, ![65536, 1024]⟩ (Layout.meshBlock [2, 2, 2] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32768x1024 : Shape := ⟨2, ![32768, 1024]⟩
abbrev S8192x1024 : Shape := ⟨2, ![8192, 1024]⟩
abbrev S2x512x1024 : Shape := ⟨3, ![2, 512, 1024]⟩
abbrev S16 : Shape := ⟨1, ![16]⟩
abbrev S6 : Shape := ⟨1, ![6]⟩
abbrev S5 : Shape := ⟨1, ![5]⟩
abbrev S_ : Shape := ⟨0, ![]⟩
abbrev S1 : Shape := ⟨1, ![1]⟩
abbrev S1x512x1024 : Shape := ⟨3, ![1, 512, 1024]⟩
abbrev S512x1024 : Shape := ⟨2, ![512, 1024]⟩

abbrev nBuf : Space → Nat
  | .hbm => 2
  | .vmem => 5
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .local _ .vmem, ⟨0, _⟩ => ⟨S8192x1024, .bf16⟩
  | .local _ .vmem, ⟨1, _⟩ => ⟨S8192x1024, .bf16⟩
  | .local _ .vmem, ⟨2, _⟩ => ⟨S8192x1024, .bf16⟩
  | .local _ .vmem, ⟨3, _⟩ => ⟨S2x512x1024, .f32⟩
  | .local _ .vmem, ⟨4, _⟩ => ⟨S2x512x1024, .f32⟩
  | _, _ => ⟨S32768x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 161 → Bool
  | ⟨i, _⟩ => dmaSemScopedAt i

abbrev sig : RefSig :=
  (ofTc nBuf bufTy 1 161 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev barrier0 : Sem sig := 0

abbrev nD : Nat := 8
abbrev τ : Topo := Topo.v7x

variable {F : FTy → Type} [FloatOps F]

abbrev grid0 : Pipeline.Grid := .none

def k0_off1 (d0 : Dev nD) (c2_i32_16 : BitVec 32) (c0_i32_20 : BitVec 32) : Fin 2 → Nat :=
  let c2_i32_8 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.addi v5 v8
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v20 : BitVec 32 := Scalar.muli c2_i32_8 v19
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.addi v2 v8
  let c2_i32_9 : BitVec 32 := 2#32
  let c0_i32_10 : BitVec 32 := 0#32
  let v22 : BitVec 1 := Scalar.cmpi .eq c2_i32_9 c0_i32_10
  let c1_i32_11 : BitVec 32 := 1#32
  let v23 : BitVec 32 := Scalar.select v22 c1_i32_11 c2_i32_9
  let v24 : BitVec 32 := Scalar.remsi v21 v23
  let c0_i32_13 : BitVec 32 := 0#32
  let v26 : BitVec 1 := Scalar.cmpi .slt v24 c0_i32_13
  let c0_i32_14 : BitVec 32 := 0#32
  let v27 : BitVec 1 := Scalar.cmpi .slt v23 c0_i32_14
  let v28 : BitVec 1 := Scalar.xori v26 v27
  let c0_i32_12 : BitVec 32 := 0#32
  let v25 : BitVec 1 := Scalar.cmpi .ne v24 c0_i32_12
  let v29 : BitVec 1 := Scalar.andi v28 v25
  let v30 : BitVec 32 := Scalar.addi v24 v23
  let v31 : BitVec 32 := Scalar.select v29 v30 v24
  let v32 : BitVec 32 := Scalar.addi v20 v31
  let v34 : BitVec 32 := Scalar.xori v32 c2_i32_16
  let c8192_i32 : BitVec 32 := 8192#32
  let v39 : BitVec 32 := Scalar.muli v34 c8192_i32
  let v40 : BitVec 32 := Scalar.addi v39 c0_i32_20
  let c0_i32_72 : BitVec 32 := 0#32
  ![v40.toNat, 0]
def k0_off1_at (r : Fin 26) : BitVec 32 × BitVec 32 :=
  if r.val < 13 then
    if r.val < 6 then
      if r.val < 3 then
        if r.val < 1 then
          (2#32, 0#32)
        else
          if r.val < 2 then
            (2#32, 512#32)
          else
            (2#32, 1024#32)
      else
        if r.val < 4 then
          (2#32, 1536#32)
        else
          if r.val < 5 then
            (2#32, 2048#32)
          else
            (2#32, 2560#32)
    else
      if r.val < 9 then
        if r.val < 7 then
          (2#32, 3072#32)
        else
          if r.val < 8 then
            (2#32, 3584#32)
          else
            (2#32, 4096#32)
      else
        if r.val < 11 then
          if r.val < 10 then
            (2#32, 4608#32)
          else
            (2#32, 5120#32)
        else
          if r.val < 12 then
            (2#32, 5632#32)
          else
            (2#32, 6144#32)
  else
    if r.val < 19 then
      if r.val < 16 then
        if r.val < 14 then
          (2#32, 6656#32)
        else
          if r.val < 15 then
            (2#32, 7168#32)
          else
            (2#32, 7680#32)
      else
        if r.val < 17 then
          (3#32, 3072#32)
        else
          if r.val < 18 then
            (3#32, 3584#32)
          else
            (3#32, 4096#32)
    else
      if r.val < 22 then
        if r.val < 20 then
          (3#32, 4608#32)
        else
          if r.val < 21 then
            (3#32, 5120#32)
          else
            (1#32, 5632#32)
      else
        if r.val < 24 then
          if r.val < 23 then
            (1#32, 6144#32)
          else
            (1#32, 6656#32)
        else
          if r.val < 25 then
            (1#32, 7168#32)
          else
            (1#32, 7680#32)
def k0_off2 (d0 : Dev nD) (c0_i32_37 : BitVec 32) : Fin 2 → Nat :=
  let c2_i32_8 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.addi v5 v8
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v20 : BitVec 32 := Scalar.muli c2_i32_8 v19
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.addi v2 v8
  let c2_i32_9 : BitVec 32 := 2#32
  let c0_i32_10 : BitVec 32 := 0#32
  let v22 : BitVec 1 := Scalar.cmpi .eq c2_i32_9 c0_i32_10
  let c1_i32_11 : BitVec 32 := 1#32
  let v23 : BitVec 32 := Scalar.select v22 c1_i32_11 c2_i32_9
  let v24 : BitVec 32 := Scalar.remsi v21 v23
  let c0_i32_13 : BitVec 32 := 0#32
  let v26 : BitVec 1 := Scalar.cmpi .slt v24 c0_i32_13
  let c0_i32_14 : BitVec 32 := 0#32
  let v27 : BitVec 1 := Scalar.cmpi .slt v23 c0_i32_14
  let v28 : BitVec 1 := Scalar.xori v26 v27
  let c0_i32_12 : BitVec 32 := 0#32
  let v25 : BitVec 1 := Scalar.cmpi .ne v24 c0_i32_12
  let v29 : BitVec 1 := Scalar.andi v28 v25
  let v30 : BitVec 32 := Scalar.addi v24 v23
  let v31 : BitVec 32 := Scalar.select v29 v30 v24
  let v32 : BitVec 32 := Scalar.addi v20 v31
  let c8192_i32_36 : BitVec 32 := 8192#32
  let v71 : BitVec 32 := Scalar.muli v32 c8192_i32_36
  let v72 : BitVec 32 := Scalar.addi v71 c0_i32_37
  let c0_i32_82 : BitVec 32 := 0#32
  ![v72.toNat, 0]
def k0_dev1 (d0 : Dev nD) : Nat :=
  let c0_i32_90 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_89 : BitVec 32 := 4#32
  let v124 : BitVec 32 := Scalar.muli v2 c4_i32_89
  let v125 : BitVec 32 := Scalar.addi c0_i32_90 v124
  let c1_i32_17 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v36 : BitVec 32 := Scalar.subi c1_i32_17 v5
  let c2_i32_91 : BitVec 32 := 2#32
  let v126 : BitVec 32 := Scalar.muli v36 c2_i32_91
  let v127 : BitVec 32 := Scalar.addi v125 v126
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_92 : BitVec 32 := 1#32
  let v128 : BitVec 32 := Scalar.muli v8 c1_i32_92
  let v129 : BitVec 32 := Scalar.addi v127 v128
  v129.toNat
def k0_dev2 (d0 : Dev nD) : Nat :=
  let c0_i32_95 : BitVec 32 := 0#32
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v37 : BitVec 32 := Scalar.subi c1_i32_18 v2
  let c4_i32_94 : BitVec 32 := 4#32
  let v130 : BitVec 32 := Scalar.muli v37 c4_i32_94
  let v131 : BitVec 32 := Scalar.addi c0_i32_95 v130
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_96 : BitVec 32 := 2#32
  let v132 : BitVec 32 := Scalar.muli v5 c2_i32_96
  let v133 : BitVec 32 := Scalar.addi v131 v132
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_97 : BitVec 32 := 1#32
  let v134 : BitVec 32 := Scalar.muli v8 c1_i32_97
  let v135 : BitVec 32 := Scalar.addi v133 v134
  v135.toNat
def k0_dev3 (d0 : Dev nD) : Nat :=
  let c0_i32_100 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_99 : BitVec 32 := 4#32
  let v136 : BitVec 32 := Scalar.muli v2 c4_i32_99
  let v137 : BitVec 32 := Scalar.addi c0_i32_100 v136
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_101 : BitVec 32 := 2#32
  let v138 : BitVec 32 := Scalar.muli v5 c2_i32_101
  let v139 : BitVec 32 := Scalar.addi v137 v138
  let c1_i32_19 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v38 : BitVec 32 := Scalar.subi c1_i32_19 v8
  let c1_i32_102 : BitVec 32 := 1#32
  let v140 : BitVec 32 := Scalar.muli v38 c1_i32_102
  let v141 : BitVec 32 := Scalar.addi v139 v140
  v141.toNat
def k0_dev4 (d0 : Dev nD) : Nat :=
  let c0_i32_121 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_120 : BitVec 32 := 4#32
  let v158 : BitVec 32 := Scalar.muli v2 c4_i32_120
  let v159 : BitVec 32 := Scalar.addi c0_i32_121 v158
  let c1_i32_17 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v36 : BitVec 32 := Scalar.subi c1_i32_17 v5
  let c2_i32_122 : BitVec 32 := 2#32
  let v160 : BitVec 32 := Scalar.muli v36 c2_i32_122
  let v161 : BitVec 32 := Scalar.addi v159 v160
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_123 : BitVec 32 := 1#32
  let v162 : BitVec 32 := Scalar.muli v8 c1_i32_123
  let v163 : BitVec 32 := Scalar.addi v161 v162
  v163.toNat
def k0_dev5 (d0 : Dev nD) : Nat :=
  let c0_i32_144 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_143 : BitVec 32 := 4#32
  let v186 : BitVec 32 := Scalar.muli v2 c4_i32_143
  let v187 : BitVec 32 := Scalar.addi c0_i32_144 v186
  let c1_i32_17 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v36 : BitVec 32 := Scalar.subi c1_i32_17 v5
  let c2_i32_145 : BitVec 32 := 2#32
  let v188 : BitVec 32 := Scalar.muli v36 c2_i32_145
  let v189 : BitVec 32 := Scalar.addi v187 v188
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_146 : BitVec 32 := 1#32
  let v190 : BitVec 32 := Scalar.muli v8 c1_i32_146
  let v191 : BitVec 32 := Scalar.addi v189 v190
  v191.toNat
def k0_dev6 (d0 : Dev nD) : Nat :=
  let c0_i32_168 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_167 : BitVec 32 := 4#32
  let v214 : BitVec 32 := Scalar.muli v2 c4_i32_167
  let v215 : BitVec 32 := Scalar.addi c0_i32_168 v214
  let c1_i32_17 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v36 : BitVec 32 := Scalar.subi c1_i32_17 v5
  let c2_i32_169 : BitVec 32 := 2#32
  let v216 : BitVec 32 := Scalar.muli v36 c2_i32_169
  let v217 : BitVec 32 := Scalar.addi v215 v216
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_170 : BitVec 32 := 1#32
  let v218 : BitVec 32 := Scalar.muli v8 c1_i32_170
  let v219 : BitVec 32 := Scalar.addi v217 v218
  v219.toNat
def k0_dev7 (d0 : Dev nD) : Nat :=
  let c0_i32_191 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_190 : BitVec 32 := 4#32
  let v242 : BitVec 32 := Scalar.muli v2 c4_i32_190
  let v243 : BitVec 32 := Scalar.addi c0_i32_191 v242
  let c1_i32_17 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v36 : BitVec 32 := Scalar.subi c1_i32_17 v5
  let c2_i32_192 : BitVec 32 := 2#32
  let v244 : BitVec 32 := Scalar.muli v36 c2_i32_192
  let v245 : BitVec 32 := Scalar.addi v243 v244
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_193 : BitVec 32 := 1#32
  let v246 : BitVec 32 := Scalar.muli v8 c1_i32_193
  let v247 : BitVec 32 := Scalar.addi v245 v246
  v247.toNat
def k0_dev8 (d0 : Dev nD) : Nat :=
  let c0_i32_214 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_213 : BitVec 32 := 4#32
  let v270 : BitVec 32 := Scalar.muli v2 c4_i32_213
  let v271 : BitVec 32 := Scalar.addi c0_i32_214 v270
  let c1_i32_17 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v36 : BitVec 32 := Scalar.subi c1_i32_17 v5
  let c2_i32_215 : BitVec 32 := 2#32
  let v272 : BitVec 32 := Scalar.muli v36 c2_i32_215
  let v273 : BitVec 32 := Scalar.addi v271 v272
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_216 : BitVec 32 := 1#32
  let v274 : BitVec 32 := Scalar.muli v8 c1_i32_216
  let v275 : BitVec 32 := Scalar.addi v273 v274
  v275.toNat
def k0_dev9 (d0 : Dev nD) : Nat :=
  let c0_i32_260 : BitVec 32 := 0#32
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v37 : BitVec 32 := Scalar.subi c1_i32_18 v2
  let c4_i32_259 : BitVec 32 := 4#32
  let v316 : BitVec 32 := Scalar.muli v37 c4_i32_259
  let v317 : BitVec 32 := Scalar.addi c0_i32_260 v316
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_261 : BitVec 32 := 2#32
  let v318 : BitVec 32 := Scalar.muli v5 c2_i32_261
  let v319 : BitVec 32 := Scalar.addi v317 v318
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_262 : BitVec 32 := 1#32
  let v320 : BitVec 32 := Scalar.muli v8 c1_i32_262
  let v321 : BitVec 32 := Scalar.addi v319 v320
  v321.toNat
def k0_dev10 (d0 : Dev nD) : Nat :=
  let c0_i32_269 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_268 : BitVec 32 := 4#32
  let v328 : BitVec 32 := Scalar.muli v2 c4_i32_268
  let v329 : BitVec 32 := Scalar.addi c0_i32_269 v328
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_270 : BitVec 32 := 2#32
  let v330 : BitVec 32 := Scalar.muli v5 c2_i32_270
  let v331 : BitVec 32 := Scalar.addi v329 v330
  let c1_i32_19 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v38 : BitVec 32 := Scalar.subi c1_i32_19 v8
  let c1_i32_271 : BitVec 32 := 1#32
  let v332 : BitVec 32 := Scalar.muli v38 c1_i32_271
  let v333 : BitVec 32 := Scalar.addi v331 v332
  v333.toNat
def k0_dev11 (d0 : Dev nD) : Nat :=
  let c0_i32_291 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_290 : BitVec 32 := 4#32
  let v356 : BitVec 32 := Scalar.muli v2 c4_i32_290
  let v357 : BitVec 32 := Scalar.addi c0_i32_291 v356
  let c1_i32_17 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v36 : BitVec 32 := Scalar.subi c1_i32_17 v5
  let c2_i32_292 : BitVec 32 := 2#32
  let v358 : BitVec 32 := Scalar.muli v36 c2_i32_292
  let v359 : BitVec 32 := Scalar.addi v357 v358
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_293 : BitVec 32 := 1#32
  let v360 : BitVec 32 := Scalar.muli v8 c1_i32_293
  let v361 : BitVec 32 := Scalar.addi v359 v360
  v361.toNat
def k0_dev12 (d0 : Dev nD) : Nat :=
  let c0_i32_337 : BitVec 32 := 0#32
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v37 : BitVec 32 := Scalar.subi c1_i32_18 v2
  let c4_i32_336 : BitVec 32 := 4#32
  let v402 : BitVec 32 := Scalar.muli v37 c4_i32_336
  let v403 : BitVec 32 := Scalar.addi c0_i32_337 v402
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_338 : BitVec 32 := 2#32
  let v404 : BitVec 32 := Scalar.muli v5 c2_i32_338
  let v405 : BitVec 32 := Scalar.addi v403 v404
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_339 : BitVec 32 := 1#32
  let v406 : BitVec 32 := Scalar.muli v8 c1_i32_339
  let v407 : BitVec 32 := Scalar.addi v405 v406
  v407.toNat
def k0_dev13 (d0 : Dev nD) : Nat :=
  let c0_i32_346 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_345 : BitVec 32 := 4#32
  let v414 : BitVec 32 := Scalar.muli v2 c4_i32_345
  let v415 : BitVec 32 := Scalar.addi c0_i32_346 v414
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_347 : BitVec 32 := 2#32
  let v416 : BitVec 32 := Scalar.muli v5 c2_i32_347
  let v417 : BitVec 32 := Scalar.addi v415 v416
  let c1_i32_19 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v38 : BitVec 32 := Scalar.subi c1_i32_19 v8
  let c1_i32_348 : BitVec 32 := 1#32
  let v418 : BitVec 32 := Scalar.muli v38 c1_i32_348
  let v419 : BitVec 32 := Scalar.addi v417 v418
  v419.toNat
def k0_dev14 (d0 : Dev nD) : Nat :=
  let c0_i32_368 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_367 : BitVec 32 := 4#32
  let v442 : BitVec 32 := Scalar.muli v2 c4_i32_367
  let v443 : BitVec 32 := Scalar.addi c0_i32_368 v442
  let c1_i32_17 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v36 : BitVec 32 := Scalar.subi c1_i32_17 v5
  let c2_i32_369 : BitVec 32 := 2#32
  let v444 : BitVec 32 := Scalar.muli v36 c2_i32_369
  let v445 : BitVec 32 := Scalar.addi v443 v444
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_370 : BitVec 32 := 1#32
  let v446 : BitVec 32 := Scalar.muli v8 c1_i32_370
  let v447 : BitVec 32 := Scalar.addi v445 v446
  v447.toNat
def k0_dev15 (d0 : Dev nD) : Nat :=
  let c0_i32_414 : BitVec 32 := 0#32
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v37 : BitVec 32 := Scalar.subi c1_i32_18 v2
  let c4_i32_413 : BitVec 32 := 4#32
  let v488 : BitVec 32 := Scalar.muli v37 c4_i32_413
  let v489 : BitVec 32 := Scalar.addi c0_i32_414 v488
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_415 : BitVec 32 := 2#32
  let v490 : BitVec 32 := Scalar.muli v5 c2_i32_415
  let v491 : BitVec 32 := Scalar.addi v489 v490
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_416 : BitVec 32 := 1#32
  let v492 : BitVec 32 := Scalar.muli v8 c1_i32_416
  let v493 : BitVec 32 := Scalar.addi v491 v492
  v493.toNat
def k0_dev16 (d0 : Dev nD) : Nat :=
  let c0_i32_423 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_422 : BitVec 32 := 4#32
  let v500 : BitVec 32 := Scalar.muli v2 c4_i32_422
  let v501 : BitVec 32 := Scalar.addi c0_i32_423 v500
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_424 : BitVec 32 := 2#32
  let v502 : BitVec 32 := Scalar.muli v5 c2_i32_424
  let v503 : BitVec 32 := Scalar.addi v501 v502
  let c1_i32_19 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v38 : BitVec 32 := Scalar.subi c1_i32_19 v8
  let c1_i32_425 : BitVec 32 := 1#32
  let v504 : BitVec 32 := Scalar.muli v38 c1_i32_425
  let v505 : BitVec 32 := Scalar.addi v503 v504
  v505.toNat
def k0_dev17 (d0 : Dev nD) : Nat :=
  let c0_i32_445 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_444 : BitVec 32 := 4#32
  let v528 : BitVec 32 := Scalar.muli v2 c4_i32_444
  let v529 : BitVec 32 := Scalar.addi c0_i32_445 v528
  let c1_i32_17 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v36 : BitVec 32 := Scalar.subi c1_i32_17 v5
  let c2_i32_446 : BitVec 32 := 2#32
  let v530 : BitVec 32 := Scalar.muli v36 c2_i32_446
  let v531 : BitVec 32 := Scalar.addi v529 v530
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_447 : BitVec 32 := 1#32
  let v532 : BitVec 32 := Scalar.muli v8 c1_i32_447
  let v533 : BitVec 32 := Scalar.addi v531 v532
  v533.toNat
def k0_dev18 (d0 : Dev nD) : Nat :=
  let c0_i32_491 : BitVec 32 := 0#32
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v37 : BitVec 32 := Scalar.subi c1_i32_18 v2
  let c4_i32_490 : BitVec 32 := 4#32
  let v574 : BitVec 32 := Scalar.muli v37 c4_i32_490
  let v575 : BitVec 32 := Scalar.addi c0_i32_491 v574
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_492 : BitVec 32 := 2#32
  let v576 : BitVec 32 := Scalar.muli v5 c2_i32_492
  let v577 : BitVec 32 := Scalar.addi v575 v576
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_493 : BitVec 32 := 1#32
  let v578 : BitVec 32 := Scalar.muli v8 c1_i32_493
  let v579 : BitVec 32 := Scalar.addi v577 v578
  v579.toNat
def k0_dev19 (d0 : Dev nD) : Nat :=
  let c0_i32_500 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_499 : BitVec 32 := 4#32
  let v586 : BitVec 32 := Scalar.muli v2 c4_i32_499
  let v587 : BitVec 32 := Scalar.addi c0_i32_500 v586
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_501 : BitVec 32 := 2#32
  let v588 : BitVec 32 := Scalar.muli v5 c2_i32_501
  let v589 : BitVec 32 := Scalar.addi v587 v588
  let c1_i32_19 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v38 : BitVec 32 := Scalar.subi c1_i32_19 v8
  let c1_i32_502 : BitVec 32 := 1#32
  let v590 : BitVec 32 := Scalar.muli v38 c1_i32_502
  let v591 : BitVec 32 := Scalar.addi v589 v590
  v591.toNat
def k0_dev20 (d0 : Dev nD) : Nat :=
  let c0_i32_522 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_521 : BitVec 32 := 4#32
  let v614 : BitVec 32 := Scalar.muli v2 c4_i32_521
  let v615 : BitVec 32 := Scalar.addi c0_i32_522 v614
  let c1_i32_17 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v36 : BitVec 32 := Scalar.subi c1_i32_17 v5
  let c2_i32_523 : BitVec 32 := 2#32
  let v616 : BitVec 32 := Scalar.muli v36 c2_i32_523
  let v617 : BitVec 32 := Scalar.addi v615 v616
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_524 : BitVec 32 := 1#32
  let v618 : BitVec 32 := Scalar.muli v8 c1_i32_524
  let v619 : BitVec 32 := Scalar.addi v617 v618
  v619.toNat
def k0_dev21 (d0 : Dev nD) : Nat :=
  let c0_i32_568 : BitVec 32 := 0#32
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v37 : BitVec 32 := Scalar.subi c1_i32_18 v2
  let c4_i32_567 : BitVec 32 := 4#32
  let v660 : BitVec 32 := Scalar.muli v37 c4_i32_567
  let v661 : BitVec 32 := Scalar.addi c0_i32_568 v660
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_569 : BitVec 32 := 2#32
  let v662 : BitVec 32 := Scalar.muli v5 c2_i32_569
  let v663 : BitVec 32 := Scalar.addi v661 v662
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_570 : BitVec 32 := 1#32
  let v664 : BitVec 32 := Scalar.muli v8 c1_i32_570
  let v665 : BitVec 32 := Scalar.addi v663 v664
  v665.toNat
def k0_dev22 (d0 : Dev nD) : Nat :=
  let c0_i32_577 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_576 : BitVec 32 := 4#32
  let v672 : BitVec 32 := Scalar.muli v2 c4_i32_576
  let v673 : BitVec 32 := Scalar.addi c0_i32_577 v672
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_578 : BitVec 32 := 2#32
  let v674 : BitVec 32 := Scalar.muli v5 c2_i32_578
  let v675 : BitVec 32 := Scalar.addi v673 v674
  let c1_i32_19 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v38 : BitVec 32 := Scalar.subi c1_i32_19 v8
  let c1_i32_579 : BitVec 32 := 1#32
  let v676 : BitVec 32 := Scalar.muli v38 c1_i32_579
  let v677 : BitVec 32 := Scalar.addi v675 v676
  v677.toNat
def k0_dev23 (d0 : Dev nD) : Nat :=
  let c0_i32_599 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_598 : BitVec 32 := 4#32
  let v700 : BitVec 32 := Scalar.muli v2 c4_i32_598
  let v701 : BitVec 32 := Scalar.addi c0_i32_599 v700
  let c1_i32_17 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v36 : BitVec 32 := Scalar.subi c1_i32_17 v5
  let c2_i32_600 : BitVec 32 := 2#32
  let v702 : BitVec 32 := Scalar.muli v36 c2_i32_600
  let v703 : BitVec 32 := Scalar.addi v701 v702
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_601 : BitVec 32 := 1#32
  let v704 : BitVec 32 := Scalar.muli v8 c1_i32_601
  let v705 : BitVec 32 := Scalar.addi v703 v704
  v705.toNat
def k0_dev24 (d0 : Dev nD) : Nat :=
  let c0_i32_645 : BitVec 32 := 0#32
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v37 : BitVec 32 := Scalar.subi c1_i32_18 v2
  let c4_i32_644 : BitVec 32 := 4#32
  let v746 : BitVec 32 := Scalar.muli v37 c4_i32_644
  let v747 : BitVec 32 := Scalar.addi c0_i32_645 v746
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_646 : BitVec 32 := 2#32
  let v748 : BitVec 32 := Scalar.muli v5 c2_i32_646
  let v749 : BitVec 32 := Scalar.addi v747 v748
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_647 : BitVec 32 := 1#32
  let v750 : BitVec 32 := Scalar.muli v8 c1_i32_647
  let v751 : BitVec 32 := Scalar.addi v749 v750
  v751.toNat
def k0_dev25 (d0 : Dev nD) : Nat :=
  let c0_i32_654 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_653 : BitVec 32 := 4#32
  let v758 : BitVec 32 := Scalar.muli v2 c4_i32_653
  let v759 : BitVec 32 := Scalar.addi c0_i32_654 v758
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_655 : BitVec 32 := 2#32
  let v760 : BitVec 32 := Scalar.muli v5 c2_i32_655
  let v761 : BitVec 32 := Scalar.addi v759 v760
  let c1_i32_19 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v38 : BitVec 32 := Scalar.subi c1_i32_19 v8
  let c1_i32_656 : BitVec 32 := 1#32
  let v762 : BitVec 32 := Scalar.muli v38 c1_i32_656
  let v763 : BitVec 32 := Scalar.addi v761 v762
  v763.toNat
def k0_dev26 (d0 : Dev nD) : Nat :=
  let c0_i32_676 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_675 : BitVec 32 := 4#32
  let v786 : BitVec 32 := Scalar.muli v2 c4_i32_675
  let v787 : BitVec 32 := Scalar.addi c0_i32_676 v786
  let c1_i32_17 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v36 : BitVec 32 := Scalar.subi c1_i32_17 v5
  let c2_i32_677 : BitVec 32 := 2#32
  let v788 : BitVec 32 := Scalar.muli v36 c2_i32_677
  let v789 : BitVec 32 := Scalar.addi v787 v788
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_678 : BitVec 32 := 1#32
  let v790 : BitVec 32 := Scalar.muli v8 c1_i32_678
  let v791 : BitVec 32 := Scalar.addi v789 v790
  v791.toNat
def k0_dev27 (d0 : Dev nD) : Nat :=
  let c0_i32_722 : BitVec 32 := 0#32
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v37 : BitVec 32 := Scalar.subi c1_i32_18 v2
  let c4_i32_721 : BitVec 32 := 4#32
  let v832 : BitVec 32 := Scalar.muli v37 c4_i32_721
  let v833 : BitVec 32 := Scalar.addi c0_i32_722 v832
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_723 : BitVec 32 := 2#32
  let v834 : BitVec 32 := Scalar.muli v5 c2_i32_723
  let v835 : BitVec 32 := Scalar.addi v833 v834
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_724 : BitVec 32 := 1#32
  let v836 : BitVec 32 := Scalar.muli v8 c1_i32_724
  let v837 : BitVec 32 := Scalar.addi v835 v836
  v837.toNat
def k0_dev28 (d0 : Dev nD) : Nat :=
  let c0_i32_731 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_730 : BitVec 32 := 4#32
  let v844 : BitVec 32 := Scalar.muli v2 c4_i32_730
  let v845 : BitVec 32 := Scalar.addi c0_i32_731 v844
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_732 : BitVec 32 := 2#32
  let v846 : BitVec 32 := Scalar.muli v5 c2_i32_732
  let v847 : BitVec 32 := Scalar.addi v845 v846
  let c1_i32_19 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v38 : BitVec 32 := Scalar.subi c1_i32_19 v8
  let c1_i32_733 : BitVec 32 := 1#32
  let v848 : BitVec 32 := Scalar.muli v38 c1_i32_733
  let v849 : BitVec 32 := Scalar.addi v847 v848
  v849.toNat
def k0_dev29 (d0 : Dev nD) : Nat :=
  let c0_i32_753 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_752 : BitVec 32 := 4#32
  let v872 : BitVec 32 := Scalar.muli v2 c4_i32_752
  let v873 : BitVec 32 := Scalar.addi c0_i32_753 v872
  let c1_i32_17 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v36 : BitVec 32 := Scalar.subi c1_i32_17 v5
  let c2_i32_754 : BitVec 32 := 2#32
  let v874 : BitVec 32 := Scalar.muli v36 c2_i32_754
  let v875 : BitVec 32 := Scalar.addi v873 v874
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_755 : BitVec 32 := 1#32
  let v876 : BitVec 32 := Scalar.muli v8 c1_i32_755
  let v877 : BitVec 32 := Scalar.addi v875 v876
  v877.toNat
def k0_dev30 (d0 : Dev nD) : Nat :=
  let c0_i32_799 : BitVec 32 := 0#32
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v37 : BitVec 32 := Scalar.subi c1_i32_18 v2
  let c4_i32_798 : BitVec 32 := 4#32
  let v918 : BitVec 32 := Scalar.muli v37 c4_i32_798
  let v919 : BitVec 32 := Scalar.addi c0_i32_799 v918
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_800 : BitVec 32 := 2#32
  let v920 : BitVec 32 := Scalar.muli v5 c2_i32_800
  let v921 : BitVec 32 := Scalar.addi v919 v920
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_801 : BitVec 32 := 1#32
  let v922 : BitVec 32 := Scalar.muli v8 c1_i32_801
  let v923 : BitVec 32 := Scalar.addi v921 v922
  v923.toNat
def k0_dev31 (d0 : Dev nD) : Nat :=
  let c0_i32_808 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_807 : BitVec 32 := 4#32
  let v930 : BitVec 32 := Scalar.muli v2 c4_i32_807
  let v931 : BitVec 32 := Scalar.addi c0_i32_808 v930
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_809 : BitVec 32 := 2#32
  let v932 : BitVec 32 := Scalar.muli v5 c2_i32_809
  let v933 : BitVec 32 := Scalar.addi v931 v932
  let c1_i32_19 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v38 : BitVec 32 := Scalar.subi c1_i32_19 v8
  let c1_i32_810 : BitVec 32 := 1#32
  let v934 : BitVec 32 := Scalar.muli v38 c1_i32_810
  let v935 : BitVec 32 := Scalar.addi v933 v934
  v935.toNat
def k0_dev32 (d0 : Dev nD) : Nat :=
  let c0_i32_830 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_829 : BitVec 32 := 4#32
  let v958 : BitVec 32 := Scalar.muli v2 c4_i32_829
  let v959 : BitVec 32 := Scalar.addi c0_i32_830 v958
  let c1_i32_17 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v36 : BitVec 32 := Scalar.subi c1_i32_17 v5
  let c2_i32_831 : BitVec 32 := 2#32
  let v960 : BitVec 32 := Scalar.muli v36 c2_i32_831
  let v961 : BitVec 32 := Scalar.addi v959 v960
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_832 : BitVec 32 := 1#32
  let v962 : BitVec 32 := Scalar.muli v8 c1_i32_832
  let v963 : BitVec 32 := Scalar.addi v961 v962
  v963.toNat
def k0_dev33 (d0 : Dev nD) : Nat :=
  let c0_i32_876 : BitVec 32 := 0#32
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v37 : BitVec 32 := Scalar.subi c1_i32_18 v2
  let c4_i32_875 : BitVec 32 := 4#32
  let v1004 : BitVec 32 := Scalar.muli v37 c4_i32_875
  let v1005 : BitVec 32 := Scalar.addi c0_i32_876 v1004
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_877 : BitVec 32 := 2#32
  let v1006 : BitVec 32 := Scalar.muli v5 c2_i32_877
  let v1007 : BitVec 32 := Scalar.addi v1005 v1006
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_878 : BitVec 32 := 1#32
  let v1008 : BitVec 32 := Scalar.muli v8 c1_i32_878
  let v1009 : BitVec 32 := Scalar.addi v1007 v1008
  v1009.toNat
def k0_dev34 (d0 : Dev nD) : Nat :=
  let c0_i32_885 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_884 : BitVec 32 := 4#32
  let v1016 : BitVec 32 := Scalar.muli v2 c4_i32_884
  let v1017 : BitVec 32 := Scalar.addi c0_i32_885 v1016
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_886 : BitVec 32 := 2#32
  let v1018 : BitVec 32 := Scalar.muli v5 c2_i32_886
  let v1019 : BitVec 32 := Scalar.addi v1017 v1018
  let c1_i32_19 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v38 : BitVec 32 := Scalar.subi c1_i32_19 v8
  let c1_i32_887 : BitVec 32 := 1#32
  let v1020 : BitVec 32 := Scalar.muli v38 c1_i32_887
  let v1021 : BitVec 32 := Scalar.addi v1019 v1020
  v1021.toNat
def k0_dev35 (d0 : Dev nD) : Nat :=
  let c0_i32_907 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_906 : BitVec 32 := 4#32
  let v1044 : BitVec 32 := Scalar.muli v2 c4_i32_906
  let v1045 : BitVec 32 := Scalar.addi c0_i32_907 v1044
  let c1_i32_17 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v36 : BitVec 32 := Scalar.subi c1_i32_17 v5
  let c2_i32_908 : BitVec 32 := 2#32
  let v1046 : BitVec 32 := Scalar.muli v36 c2_i32_908
  let v1047 : BitVec 32 := Scalar.addi v1045 v1046
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_909 : BitVec 32 := 1#32
  let v1048 : BitVec 32 := Scalar.muli v8 c1_i32_909
  let v1049 : BitVec 32 := Scalar.addi v1047 v1048
  v1049.toNat
def k0_dev36 (d0 : Dev nD) : Nat :=
  let c0_i32_953 : BitVec 32 := 0#32
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v37 : BitVec 32 := Scalar.subi c1_i32_18 v2
  let c4_i32_952 : BitVec 32 := 4#32
  let v1090 : BitVec 32 := Scalar.muli v37 c4_i32_952
  let v1091 : BitVec 32 := Scalar.addi c0_i32_953 v1090
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_954 : BitVec 32 := 2#32
  let v1092 : BitVec 32 := Scalar.muli v5 c2_i32_954
  let v1093 : BitVec 32 := Scalar.addi v1091 v1092
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_955 : BitVec 32 := 1#32
  let v1094 : BitVec 32 := Scalar.muli v8 c1_i32_955
  let v1095 : BitVec 32 := Scalar.addi v1093 v1094
  v1095.toNat
def k0_dev37 (d0 : Dev nD) : Nat :=
  let c0_i32_962 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_961 : BitVec 32 := 4#32
  let v1102 : BitVec 32 := Scalar.muli v2 c4_i32_961
  let v1103 : BitVec 32 := Scalar.addi c0_i32_962 v1102
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_963 : BitVec 32 := 2#32
  let v1104 : BitVec 32 := Scalar.muli v5 c2_i32_963
  let v1105 : BitVec 32 := Scalar.addi v1103 v1104
  let c1_i32_19 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v38 : BitVec 32 := Scalar.subi c1_i32_19 v8
  let c1_i32_964 : BitVec 32 := 1#32
  let v1106 : BitVec 32 := Scalar.muli v38 c1_i32_964
  let v1107 : BitVec 32 := Scalar.addi v1105 v1106
  v1107.toNat
def k0_dev38 (d0 : Dev nD) : Nat :=
  let c0_i32_980 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_979 : BitVec 32 := 4#32
  let v1125 : BitVec 32 := Scalar.muli v2 c4_i32_979
  let v1126 : BitVec 32 := Scalar.addi c0_i32_980 v1125
  let c1_i32_17 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v36 : BitVec 32 := Scalar.subi c1_i32_17 v5
  let c2_i32_981 : BitVec 32 := 2#32
  let v1127 : BitVec 32 := Scalar.muli v36 c2_i32_981
  let v1128 : BitVec 32 := Scalar.addi v1126 v1127
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_982 : BitVec 32 := 1#32
  let v1129 : BitVec 32 := Scalar.muli v8 c1_i32_982
  let v1130 : BitVec 32 := Scalar.addi v1128 v1129
  v1130.toNat
def k0_dev39 (d0 : Dev nD) : Nat :=
  let c0_i32_1026 : BitVec 32 := 0#32
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v37 : BitVec 32 := Scalar.subi c1_i32_18 v2
  let c4_i32_1025 : BitVec 32 := 4#32
  let v1171 : BitVec 32 := Scalar.muli v37 c4_i32_1025
  let v1172 : BitVec 32 := Scalar.addi c0_i32_1026 v1171
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1027 : BitVec 32 := 2#32
  let v1173 : BitVec 32 := Scalar.muli v5 c2_i32_1027
  let v1174 : BitVec 32 := Scalar.addi v1172 v1173
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1028 : BitVec 32 := 1#32
  let v1175 : BitVec 32 := Scalar.muli v8 c1_i32_1028
  let v1176 : BitVec 32 := Scalar.addi v1174 v1175
  v1176.toNat
def k0_dev40 (d0 : Dev nD) : Nat :=
  let c0_i32_1035 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1034 : BitVec 32 := 4#32
  let v1183 : BitVec 32 := Scalar.muli v2 c4_i32_1034
  let v1184 : BitVec 32 := Scalar.addi c0_i32_1035 v1183
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1036 : BitVec 32 := 2#32
  let v1185 : BitVec 32 := Scalar.muli v5 c2_i32_1036
  let v1186 : BitVec 32 := Scalar.addi v1184 v1185
  let c1_i32_19 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v38 : BitVec 32 := Scalar.subi c1_i32_19 v8
  let c1_i32_1037 : BitVec 32 := 1#32
  let v1187 : BitVec 32 := Scalar.muli v38 c1_i32_1037
  let v1188 : BitVec 32 := Scalar.addi v1186 v1187
  v1188.toNat
def k0_dev41 (d0 : Dev nD) : Nat :=
  let c0_i32_1053 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1052 : BitVec 32 := 4#32
  let v1206 : BitVec 32 := Scalar.muli v2 c4_i32_1052
  let v1207 : BitVec 32 := Scalar.addi c0_i32_1053 v1206
  let c1_i32_17 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v36 : BitVec 32 := Scalar.subi c1_i32_17 v5
  let c2_i32_1054 : BitVec 32 := 2#32
  let v1208 : BitVec 32 := Scalar.muli v36 c2_i32_1054
  let v1209 : BitVec 32 := Scalar.addi v1207 v1208
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1055 : BitVec 32 := 1#32
  let v1210 : BitVec 32 := Scalar.muli v8 c1_i32_1055
  let v1211 : BitVec 32 := Scalar.addi v1209 v1210
  v1211.toNat
def k0_dev42 (d0 : Dev nD) : Nat :=
  let c0_i32_1099 : BitVec 32 := 0#32
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v37 : BitVec 32 := Scalar.subi c1_i32_18 v2
  let c4_i32_1098 : BitVec 32 := 4#32
  let v1252 : BitVec 32 := Scalar.muli v37 c4_i32_1098
  let v1253 : BitVec 32 := Scalar.addi c0_i32_1099 v1252
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1100 : BitVec 32 := 2#32
  let v1254 : BitVec 32 := Scalar.muli v5 c2_i32_1100
  let v1255 : BitVec 32 := Scalar.addi v1253 v1254
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1101 : BitVec 32 := 1#32
  let v1256 : BitVec 32 := Scalar.muli v8 c1_i32_1101
  let v1257 : BitVec 32 := Scalar.addi v1255 v1256
  v1257.toNat
def k0_dev43 (d0 : Dev nD) : Nat :=
  let c0_i32_1108 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1107 : BitVec 32 := 4#32
  let v1264 : BitVec 32 := Scalar.muli v2 c4_i32_1107
  let v1265 : BitVec 32 := Scalar.addi c0_i32_1108 v1264
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1109 : BitVec 32 := 2#32
  let v1266 : BitVec 32 := Scalar.muli v5 c2_i32_1109
  let v1267 : BitVec 32 := Scalar.addi v1265 v1266
  let c1_i32_19 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v38 : BitVec 32 := Scalar.subi c1_i32_19 v8
  let c1_i32_1110 : BitVec 32 := 1#32
  let v1268 : BitVec 32 := Scalar.muli v38 c1_i32_1110
  let v1269 : BitVec 32 := Scalar.addi v1267 v1268
  v1269.toNat
def k0_dev44 (d0 : Dev nD) : Nat :=
  let c0_i32_1119 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1118 : BitVec 32 := 4#32
  let v1278 : BitVec 32 := Scalar.muli v2 c4_i32_1118
  let v1279 : BitVec 32 := Scalar.addi c0_i32_1119 v1278
  let c1_i32_17 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v36 : BitVec 32 := Scalar.subi c1_i32_17 v5
  let c2_i32_1120 : BitVec 32 := 2#32
  let v1280 : BitVec 32 := Scalar.muli v36 c2_i32_1120
  let v1281 : BitVec 32 := Scalar.addi v1279 v1280
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1121 : BitVec 32 := 1#32
  let v1282 : BitVec 32 := Scalar.muli v8 c1_i32_1121
  let v1283 : BitVec 32 := Scalar.addi v1281 v1282
  v1283.toNat
def k0_dev45 (d0 : Dev nD) : Nat :=
  let c0_i32_1130 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1129 : BitVec 32 := 4#32
  let v1292 : BitVec 32 := Scalar.muli v2 c4_i32_1129
  let v1293 : BitVec 32 := Scalar.addi c0_i32_1130 v1292
  let c1_i32_17 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v36 : BitVec 32 := Scalar.subi c1_i32_17 v5
  let c2_i32_1131 : BitVec 32 := 2#32
  let v1294 : BitVec 32 := Scalar.muli v36 c2_i32_1131
  let v1295 : BitVec 32 := Scalar.addi v1293 v1294
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1132 : BitVec 32 := 1#32
  let v1296 : BitVec 32 := Scalar.muli v8 c1_i32_1132
  let v1297 : BitVec 32 := Scalar.addi v1295 v1296
  v1297.toNat
def k0_dev46 (d0 : Dev nD) : Nat :=
  let c0_i32_1141 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1140 : BitVec 32 := 4#32
  let v1306 : BitVec 32 := Scalar.muli v2 c4_i32_1140
  let v1307 : BitVec 32 := Scalar.addi c0_i32_1141 v1306
  let c1_i32_17 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v36 : BitVec 32 := Scalar.subi c1_i32_17 v5
  let c2_i32_1142 : BitVec 32 := 2#32
  let v1308 : BitVec 32 := Scalar.muli v36 c2_i32_1142
  let v1309 : BitVec 32 := Scalar.addi v1307 v1308
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1143 : BitVec 32 := 1#32
  let v1310 : BitVec 32 := Scalar.muli v8 c1_i32_1143
  let v1311 : BitVec 32 := Scalar.addi v1309 v1310
  v1311.toNat
def k0_dev47 (d0 : Dev nD) : Nat :=
  let c0_i32_1152 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1151 : BitVec 32 := 4#32
  let v1320 : BitVec 32 := Scalar.muli v2 c4_i32_1151
  let v1321 : BitVec 32 := Scalar.addi c0_i32_1152 v1320
  let c1_i32_17 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v36 : BitVec 32 := Scalar.subi c1_i32_17 v5
  let c2_i32_1153 : BitVec 32 := 2#32
  let v1322 : BitVec 32 := Scalar.muli v36 c2_i32_1153
  let v1323 : BitVec 32 := Scalar.addi v1321 v1322
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1154 : BitVec 32 := 1#32
  let v1324 : BitVec 32 := Scalar.muli v8 c1_i32_1154
  let v1325 : BitVec 32 := Scalar.addi v1323 v1324
  v1325.toNat
def k0_dev48 (d0 : Dev nD) : Nat :=
  let c0_i32_1163 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1162 : BitVec 32 := 4#32
  let v1334 : BitVec 32 := Scalar.muli v2 c4_i32_1162
  let v1335 : BitVec 32 := Scalar.addi c0_i32_1163 v1334
  let c1_i32_17 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v36 : BitVec 32 := Scalar.subi c1_i32_17 v5
  let c2_i32_1164 : BitVec 32 := 2#32
  let v1336 : BitVec 32 := Scalar.muli v36 c2_i32_1164
  let v1337 : BitVec 32 := Scalar.addi v1335 v1336
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1165 : BitVec 32 := 1#32
  let v1338 : BitVec 32 := Scalar.muli v8 c1_i32_1165
  let v1339 : BitVec 32 := Scalar.addi v1337 v1338
  v1339.toNat
def k0_dev49 (d0 : Dev nD) : Nat :=
  let c0_i32_1174 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1173 : BitVec 32 := 4#32
  let v1348 : BitVec 32 := Scalar.muli v2 c4_i32_1173
  let v1349 : BitVec 32 := Scalar.addi c0_i32_1174 v1348
  let c1_i32_17 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v36 : BitVec 32 := Scalar.subi c1_i32_17 v5
  let c2_i32_1175 : BitVec 32 := 2#32
  let v1350 : BitVec 32 := Scalar.muli v36 c2_i32_1175
  let v1351 : BitVec 32 := Scalar.addi v1349 v1350
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1176 : BitVec 32 := 1#32
  let v1352 : BitVec 32 := Scalar.muli v8 c1_i32_1176
  let v1353 : BitVec 32 := Scalar.addi v1351 v1352
  v1353.toNat
def k0_dev50 (d0 : Dev nD) : Nat :=
  let c0_i32_1219 : BitVec 32 := 0#32
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v37 : BitVec 32 := Scalar.subi c1_i32_18 v2
  let c4_i32_1218 : BitVec 32 := 4#32
  let v1394 : BitVec 32 := Scalar.muli v37 c4_i32_1218
  let v1395 : BitVec 32 := Scalar.addi c0_i32_1219 v1394
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1220 : BitVec 32 := 2#32
  let v1396 : BitVec 32 := Scalar.muli v5 c2_i32_1220
  let v1397 : BitVec 32 := Scalar.addi v1395 v1396
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1221 : BitVec 32 := 1#32
  let v1398 : BitVec 32 := Scalar.muli v8 c1_i32_1221
  let v1399 : BitVec 32 := Scalar.addi v1397 v1398
  v1399.toNat
def k0_dev51 (d0 : Dev nD) : Nat :=
  let c0_i32_1228 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1227 : BitVec 32 := 4#32
  let v1406 : BitVec 32 := Scalar.muli v2 c4_i32_1227
  let v1407 : BitVec 32 := Scalar.addi c0_i32_1228 v1406
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1229 : BitVec 32 := 2#32
  let v1408 : BitVec 32 := Scalar.muli v5 c2_i32_1229
  let v1409 : BitVec 32 := Scalar.addi v1407 v1408
  let c1_i32_19 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v38 : BitVec 32 := Scalar.subi c1_i32_19 v8
  let c1_i32_1230 : BitVec 32 := 1#32
  let v1410 : BitVec 32 := Scalar.muli v38 c1_i32_1230
  let v1411 : BitVec 32 := Scalar.addi v1409 v1410
  v1411.toNat
def k0_dev52 (d0 : Dev nD) : Nat :=
  let c0_i32_1273 : BitVec 32 := 0#32
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v37 : BitVec 32 := Scalar.subi c1_i32_18 v2
  let c4_i32_1272 : BitVec 32 := 4#32
  let v1452 : BitVec 32 := Scalar.muli v37 c4_i32_1272
  let v1453 : BitVec 32 := Scalar.addi c0_i32_1273 v1452
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1274 : BitVec 32 := 2#32
  let v1454 : BitVec 32 := Scalar.muli v5 c2_i32_1274
  let v1455 : BitVec 32 := Scalar.addi v1453 v1454
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1275 : BitVec 32 := 1#32
  let v1456 : BitVec 32 := Scalar.muli v8 c1_i32_1275
  let v1457 : BitVec 32 := Scalar.addi v1455 v1456
  v1457.toNat
def k0_dev53 (d0 : Dev nD) : Nat :=
  let c0_i32_1282 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1281 : BitVec 32 := 4#32
  let v1464 : BitVec 32 := Scalar.muli v2 c4_i32_1281
  let v1465 : BitVec 32 := Scalar.addi c0_i32_1282 v1464
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1283 : BitVec 32 := 2#32
  let v1466 : BitVec 32 := Scalar.muli v5 c2_i32_1283
  let v1467 : BitVec 32 := Scalar.addi v1465 v1466
  let c1_i32_19 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v38 : BitVec 32 := Scalar.subi c1_i32_19 v8
  let c1_i32_1284 : BitVec 32 := 1#32
  let v1468 : BitVec 32 := Scalar.muli v38 c1_i32_1284
  let v1469 : BitVec 32 := Scalar.addi v1467 v1468
  v1469.toNat
def k0_dev54 (d0 : Dev nD) : Nat :=
  let c0_i32_1322 : BitVec 32 := 0#32
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v37 : BitVec 32 := Scalar.subi c1_i32_18 v2
  let c4_i32_1321 : BitVec 32 := 4#32
  let v1505 : BitVec 32 := Scalar.muli v37 c4_i32_1321
  let v1506 : BitVec 32 := Scalar.addi c0_i32_1322 v1505
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1323 : BitVec 32 := 2#32
  let v1507 : BitVec 32 := Scalar.muli v5 c2_i32_1323
  let v1508 : BitVec 32 := Scalar.addi v1506 v1507
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1324 : BitVec 32 := 1#32
  let v1509 : BitVec 32 := Scalar.muli v8 c1_i32_1324
  let v1510 : BitVec 32 := Scalar.addi v1508 v1509
  v1510.toNat
def k0_dev55 (d0 : Dev nD) : Nat :=
  let c0_i32_1331 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1330 : BitVec 32 := 4#32
  let v1517 : BitVec 32 := Scalar.muli v2 c4_i32_1330
  let v1518 : BitVec 32 := Scalar.addi c0_i32_1331 v1517
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1332 : BitVec 32 := 2#32
  let v1519 : BitVec 32 := Scalar.muli v5 c2_i32_1332
  let v1520 : BitVec 32 := Scalar.addi v1518 v1519
  let c1_i32_19 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v38 : BitVec 32 := Scalar.subi c1_i32_19 v8
  let c1_i32_1333 : BitVec 32 := 1#32
  let v1521 : BitVec 32 := Scalar.muli v38 c1_i32_1333
  let v1522 : BitVec 32 := Scalar.addi v1520 v1521
  v1522.toNat
def k0_dev56 (d0 : Dev nD) : Nat :=
  let c0_i32_1371 : BitVec 32 := 0#32
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v37 : BitVec 32 := Scalar.subi c1_i32_18 v2
  let c4_i32_1370 : BitVec 32 := 4#32
  let v1558 : BitVec 32 := Scalar.muli v37 c4_i32_1370
  let v1559 : BitVec 32 := Scalar.addi c0_i32_1371 v1558
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1372 : BitVec 32 := 2#32
  let v1560 : BitVec 32 := Scalar.muli v5 c2_i32_1372
  let v1561 : BitVec 32 := Scalar.addi v1559 v1560
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1373 : BitVec 32 := 1#32
  let v1562 : BitVec 32 := Scalar.muli v8 c1_i32_1373
  let v1563 : BitVec 32 := Scalar.addi v1561 v1562
  v1563.toNat
def k0_dev57 (d0 : Dev nD) : Nat :=
  let c0_i32_1380 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1379 : BitVec 32 := 4#32
  let v1570 : BitVec 32 := Scalar.muli v2 c4_i32_1379
  let v1571 : BitVec 32 := Scalar.addi c0_i32_1380 v1570
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1381 : BitVec 32 := 2#32
  let v1572 : BitVec 32 := Scalar.muli v5 c2_i32_1381
  let v1573 : BitVec 32 := Scalar.addi v1571 v1572
  let c1_i32_19 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v38 : BitVec 32 := Scalar.subi c1_i32_19 v8
  let c1_i32_1382 : BitVec 32 := 1#32
  let v1574 : BitVec 32 := Scalar.muli v38 c1_i32_1382
  let v1575 : BitVec 32 := Scalar.addi v1573 v1574
  v1575.toNat
def k0_off3 (d0 : Dev nD) : Fin 2 → Nat :=
  let c2_i32_8 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.addi v5 v8
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v20 : BitVec 32 := Scalar.muli c2_i32_8 v19
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.addi v2 v8
  let c2_i32_9 : BitVec 32 := 2#32
  let c0_i32_10 : BitVec 32 := 0#32
  let v22 : BitVec 1 := Scalar.cmpi .eq c2_i32_9 c0_i32_10
  let c1_i32_11 : BitVec 32 := 1#32
  let v23 : BitVec 32 := Scalar.select v22 c1_i32_11 c2_i32_9
  let v24 : BitVec 32 := Scalar.remsi v21 v23
  let c0_i32_13 : BitVec 32 := 0#32
  let v26 : BitVec 1 := Scalar.cmpi .slt v24 c0_i32_13
  let c0_i32_14 : BitVec 32 := 0#32
  let v27 : BitVec 1 := Scalar.cmpi .slt v23 c0_i32_14
  let v28 : BitVec 1 := Scalar.xori v26 v27
  let c0_i32_12 : BitVec 32 := 0#32
  let v25 : BitVec 1 := Scalar.cmpi .ne v24 c0_i32_12
  let v29 : BitVec 1 := Scalar.andi v28 v25
  let v30 : BitVec 32 := Scalar.addi v24 v23
  let v31 : BitVec 32 := Scalar.select v29 v30 v24
  let v32 : BitVec 32 := Scalar.addi v20 v31
  let c8192_i32_1386 : BitVec 32 := 8192#32
  let v1582 : BitVec 32 := Scalar.muli v32 c8192_i32_1386
  let c0_i32_1387 : BitVec 32 := 0#32
  ![v1582.toNat, 0]
def k0_dev58 (d0 : Dev nD) : Nat :=
  let c0_i32_1408 : BitVec 32 := 0#32
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v37 : BitVec 32 := Scalar.subi c1_i32_18 v2
  let c4_i32_1407 : BitVec 32 := 4#32
  let v1600 : BitVec 32 := Scalar.muli v37 c4_i32_1407
  let v1601 : BitVec 32 := Scalar.addi c0_i32_1408 v1600
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1409 : BitVec 32 := 2#32
  let v1602 : BitVec 32 := Scalar.muli v5 c2_i32_1409
  let v1603 : BitVec 32 := Scalar.addi v1601 v1602
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1410 : BitVec 32 := 1#32
  let v1604 : BitVec 32 := Scalar.muli v8 c1_i32_1410
  let v1605 : BitVec 32 := Scalar.addi v1603 v1604
  v1605.toNat
def k0_dev59 (d0 : Dev nD) : Nat :=
  let c0_i32_1433 : BitVec 32 := 0#32
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v37 : BitVec 32 := Scalar.subi c1_i32_18 v2
  let c4_i32_1432 : BitVec 32 := 4#32
  let v1628 : BitVec 32 := Scalar.muli v37 c4_i32_1432
  let v1629 : BitVec 32 := Scalar.addi c0_i32_1433 v1628
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1434 : BitVec 32 := 2#32
  let v1630 : BitVec 32 := Scalar.muli v5 c2_i32_1434
  let v1631 : BitVec 32 := Scalar.addi v1629 v1630
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1435 : BitVec 32 := 1#32
  let v1632 : BitVec 32 := Scalar.muli v8 c1_i32_1435
  let v1633 : BitVec 32 := Scalar.addi v1631 v1632
  v1633.toNat
def k0_dev60 (d0 : Dev nD) : Nat :=
  let c0_i32_1458 : BitVec 32 := 0#32
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v37 : BitVec 32 := Scalar.subi c1_i32_18 v2
  let c4_i32_1457 : BitVec 32 := 4#32
  let v1656 : BitVec 32 := Scalar.muli v37 c4_i32_1457
  let v1657 : BitVec 32 := Scalar.addi c0_i32_1458 v1656
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1459 : BitVec 32 := 2#32
  let v1658 : BitVec 32 := Scalar.muli v5 c2_i32_1459
  let v1659 : BitVec 32 := Scalar.addi v1657 v1658
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1460 : BitVec 32 := 1#32
  let v1660 : BitVec 32 := Scalar.muli v8 c1_i32_1460
  let v1661 : BitVec 32 := Scalar.addi v1659 v1660
  v1661.toNat
def k0_dev61 (d0 : Dev nD) : Nat :=
  let c0_i32_1483 : BitVec 32 := 0#32
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v37 : BitVec 32 := Scalar.subi c1_i32_18 v2
  let c4_i32_1482 : BitVec 32 := 4#32
  let v1684 : BitVec 32 := Scalar.muli v37 c4_i32_1482
  let v1685 : BitVec 32 := Scalar.addi c0_i32_1483 v1684
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1484 : BitVec 32 := 2#32
  let v1686 : BitVec 32 := Scalar.muli v5 c2_i32_1484
  let v1687 : BitVec 32 := Scalar.addi v1685 v1686
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1485 : BitVec 32 := 1#32
  let v1688 : BitVec 32 := Scalar.muli v8 c1_i32_1485
  let v1689 : BitVec 32 := Scalar.addi v1687 v1688
  v1689.toNat
def k0_dev62 (d0 : Dev nD) : Nat :=
  let c0_i32_1508 : BitVec 32 := 0#32
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v37 : BitVec 32 := Scalar.subi c1_i32_18 v2
  let c4_i32_1507 : BitVec 32 := 4#32
  let v1712 : BitVec 32 := Scalar.muli v37 c4_i32_1507
  let v1713 : BitVec 32 := Scalar.addi c0_i32_1508 v1712
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1509 : BitVec 32 := 2#32
  let v1714 : BitVec 32 := Scalar.muli v5 c2_i32_1509
  let v1715 : BitVec 32 := Scalar.addi v1713 v1714
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1510 : BitVec 32 := 1#32
  let v1716 : BitVec 32 := Scalar.muli v8 c1_i32_1510
  let v1717 : BitVec 32 := Scalar.addi v1715 v1716
  v1717.toNat
def k0_dev63 (d0 : Dev nD) : Nat :=
  let c0_i32_1533 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1532 : BitVec 32 := 4#32
  let v1740 : BitVec 32 := Scalar.muli v2 c4_i32_1532
  let v1741 : BitVec 32 := Scalar.addi c0_i32_1533 v1740
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1534 : BitVec 32 := 2#32
  let v1742 : BitVec 32 := Scalar.muli v5 c2_i32_1534
  let v1743 : BitVec 32 := Scalar.addi v1741 v1742
  let c1_i32_19 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v38 : BitVec 32 := Scalar.subi c1_i32_19 v8
  let c1_i32_1535 : BitVec 32 := 1#32
  let v1744 : BitVec 32 := Scalar.muli v38 c1_i32_1535
  let v1745 : BitVec 32 := Scalar.addi v1743 v1744
  v1745.toNat
def k0_dev64 (d0 : Dev nD) : Nat :=
  let c0_i32_1558 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1557 : BitVec 32 := 4#32
  let v1768 : BitVec 32 := Scalar.muli v2 c4_i32_1557
  let v1769 : BitVec 32 := Scalar.addi c0_i32_1558 v1768
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1559 : BitVec 32 := 2#32
  let v1770 : BitVec 32 := Scalar.muli v5 c2_i32_1559
  let v1771 : BitVec 32 := Scalar.addi v1769 v1770
  let c1_i32_19 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v38 : BitVec 32 := Scalar.subi c1_i32_19 v8
  let c1_i32_1560 : BitVec 32 := 1#32
  let v1772 : BitVec 32 := Scalar.muli v38 c1_i32_1560
  let v1773 : BitVec 32 := Scalar.addi v1771 v1772
  v1773.toNat
def k0_dev65 (d0 : Dev nD) : Nat :=
  let c0_i32_1583 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1582 : BitVec 32 := 4#32
  let v1796 : BitVec 32 := Scalar.muli v2 c4_i32_1582
  let v1797 : BitVec 32 := Scalar.addi c0_i32_1583 v1796
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1584 : BitVec 32 := 2#32
  let v1798 : BitVec 32 := Scalar.muli v5 c2_i32_1584
  let v1799 : BitVec 32 := Scalar.addi v1797 v1798
  let c1_i32_19 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v38 : BitVec 32 := Scalar.subi c1_i32_19 v8
  let c1_i32_1585 : BitVec 32 := 1#32
  let v1800 : BitVec 32 := Scalar.muli v38 c1_i32_1585
  let v1801 : BitVec 32 := Scalar.addi v1799 v1800
  v1801.toNat
def k0_dev66 (d0 : Dev nD) : Nat :=
  let c0_i32_1608 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1607 : BitVec 32 := 4#32
  let v1824 : BitVec 32 := Scalar.muli v2 c4_i32_1607
  let v1825 : BitVec 32 := Scalar.addi c0_i32_1608 v1824
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1609 : BitVec 32 := 2#32
  let v1826 : BitVec 32 := Scalar.muli v5 c2_i32_1609
  let v1827 : BitVec 32 := Scalar.addi v1825 v1826
  let c1_i32_19 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v38 : BitVec 32 := Scalar.subi c1_i32_19 v8
  let c1_i32_1610 : BitVec 32 := 1#32
  let v1828 : BitVec 32 := Scalar.muli v38 c1_i32_1610
  let v1829 : BitVec 32 := Scalar.addi v1827 v1828
  v1829.toNat
def k0_dev67 (d0 : Dev nD) : Nat :=
  let c0_i32_1633 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1632 : BitVec 32 := 4#32
  let v1852 : BitVec 32 := Scalar.muli v2 c4_i32_1632
  let v1853 : BitVec 32 := Scalar.addi c0_i32_1633 v1852
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1634 : BitVec 32 := 2#32
  let v1854 : BitVec 32 := Scalar.muli v5 c2_i32_1634
  let v1855 : BitVec 32 := Scalar.addi v1853 v1854
  let c1_i32_19 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v38 : BitVec 32 := Scalar.subi c1_i32_19 v8
  let c1_i32_1635 : BitVec 32 := 1#32
  let v1856 : BitVec 32 := Scalar.muli v38 c1_i32_1635
  let v1857 : BitVec 32 := Scalar.addi v1855 v1856
  v1857.toNat
-- ==== ReferenceIdeal.lean ====
abbrev S65536x1024 : Shape := ⟨2, ![65536, 1024]⟩
abbrev S2x32768x1024 : Shape := ⟨3, ![2, 32768, 1024]⟩
abbrev S_ : Shape := ⟨0, ![]⟩
abbrev S32768x1024 : Shape := ⟨2, ![32768, 1024]⟩

abbrev nBuf : Space → Nat
  | .hbm => 5
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S2x32768x1024, .f32⟩
  | .hbm, ⟨2, _⟩ => ⟨S_, .f32⟩
  | .hbm, ⟨3, _⟩ => ⟨S32768x1024, .f32⟩
  | .hbm, ⟨4, _⟩ => ⟨S32768x1024, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Chan.lean ====
/-
  The names of the kernel's buffers, of their 512-row chunks and of its 161 DMA semaphores, and the
  ring of neighbours: what the structured program (Prog.lean) and its proof are written over.
-/
module

public import proofs.«01_k».proof.Proof.Gen.KernelIdeal
public import proofs.«01_k».proof.Proof.Gen.KernelIdeal.Skeleton
public import Idealize.ShloMosaic.Lib.Pipeline.Launch
public import Idealize.ShloMosaic.Lib.Pipeline.Kit
public import Idealize.ShloMosaic.Lib.Tactic
public import Idealize.ShloMosaic.Lib.Pipeline.Regions
public import proofs.«01_k».proof.Proof.Gen.KernelIdeal.Points
public import proofs.«01_k».proof.Proof.Gen.KernelIdeal.Launch

@[expose] public section

namespace Cert.AllReduce

open Cert.KernelIdeal Cert.KernelIdeal.Gen
open Idealize.ShloMosaic Idealize.ShloMosaic.TcCoe
open Idealize.SL Idealize.SL.Sem

/-! ## Channels: one DMA semaphore each -/

/-- The kernel's DMA semaphores by what they count: the staging copies of the argument (`xsd`, `xqd`), the
    exchange of halves along y (`p1s`, `p1r`), the gathers along x, z and y (`gxs`, `gxr`, `gzs`, `gzr`, `gyds`,
    `gydr`), the forwards along x and z (`fxs`, `fxr`, `fzs`, `fzr`), and the copy of the own quarter (`loc`). -/
inductive Ch where
  | xsd (k : Fin 16) | xqd (k : Fin 16) | p1s (k : Fin 16) | p1r (k : Fin 16)
  | gxs (k : Fin 16) | gxr (k : Fin 16) | gzs (k : Fin 16) | gzr (k : Fin 16)
  | gyds (k : Fin 6) | gydr (k : Fin 6)
  | fxs (i : Fin 5) | fxr (i : Fin 5) | fzs (i : Fin 5) | fzr (i : Fin 5)
  | loc
  deriving DecidableEq

/-- A channel's semaphore. -/
def Ch.sem : Ch → DmaSem sig
  | .xsd k => (⟨k.val, by omega⟩ : Fin 161) | .xqd k => (⟨16 + k.val, by omega⟩ : Fin 161)
  | .p1s k => (⟨32 + k.val, by omega⟩ : Fin 161) | .p1r k => (⟨48 + k.val, by omega⟩ : Fin 161)
  | .gxs k => (⟨64 + k.val, by omega⟩ : Fin 161) | .gxr k => (⟨80 + k.val, by omega⟩ : Fin 161)
  | .gzs k => (⟨96 + k.val, by omega⟩ : Fin 161) | .gzr k => (⟨112 + k.val, by omega⟩ : Fin 161)
  | .gyds k => (⟨128 + k.val, by omega⟩ : Fin 161) | .gydr k => (⟨134 + k.val, by omega⟩ : Fin 161)
  | .fxs i => (⟨140 + i.val, by omega⟩ : Fin 161) | .fxr i => (⟨145 + i.val, by omega⟩ : Fin 161)
  | .fzs i => (⟨150 + i.val, by omega⟩ : Fin 161) | .fzr i => (⟨155 + i.val, by omega⟩ : Fin 161)
  | .loc => (160 : Fin 161)

/-- The channel of a semaphore. -/
def Ch.of (s : Fin 161) : Ch :=
  if h : s.val < 16 then .xsd ⟨s.val, h⟩
  else if h : s.val < 32 then .xqd ⟨s.val - 16, by omega⟩
  else if h : s.val < 48 then .p1s ⟨s.val - 32, by omega⟩
  else if h : s.val < 64 then .p1r ⟨s.val - 48, by omega⟩
  else if h : s.val < 80 then .gxs ⟨s.val - 64, by omega⟩
  else if h : s.val < 96 then .gxr ⟨s.val - 80, by omega⟩
  else if h : s.val < 112 then .gzs ⟨s.val - 96, by omega⟩
  else if h : s.val < 128 then .gzr ⟨s.val - 112, by omega⟩
  else if h : s.val < 134 then .gyds ⟨s.val - 128, by omega⟩
  else if h : s.val < 140 then .gydr ⟨s.val - 134, by omega⟩
  else if h : s.val < 145 then .fxs ⟨s.val - 140, by omega⟩
  else if h : s.val < 150 then .fxr ⟨s.val - 145, by omega⟩
  else if h : s.val < 155 then .fzs ⟨s.val - 150, by omega⟩
  else if h : s.val < 160 then .fzr ⟨s.val - 155, by omega⟩
  else .loc

/-- A channel is the channel of its semaphore. -/
@[simp] theorem Ch.of_sem (h : Ch) : Ch.of h.sem = h := by
  cases h with
  | loc => rfl
  | xsd k | xqd k | p1s k | p1r k | gxs k | gxr k | gzs k | gzr k | gyds k | gydr k | fxs k | fxr k | fzs k | fzr k =>
    revert k; decide

/-- A semaphore is that of its channel. -/
@[simp] theorem Ch.sem_of (s : Fin 161) : (Ch.of s).sem = s := by revert s; decide +kernel

/-- Channels are numbered by their semaphores. -/
theorem Ch.sem_inj {h h' : Ch} (e : h.sem = h'.sem) : h = h' := by
  have := congrArg Ch.of e; simpa using this

/-! ## The neighbours -/

/-- The neighbour along y. -/
def ny (c : Dev nD) : Dev nD := ⟨4 * (c.val / 4) + (c.val % 2) + 2 - 2 * ((c.val / 2) % 2), by revert c; decide⟩
/-- The neighbour along x. -/
def nx (c : Dev nD) : Dev nD := ⟨2 * ((c.val / 2) % 2) + (c.val % 2) + 4 - 4 * (c.val / 4), by revert c; decide⟩
/-- The neighbour along z. -/
def nz (c : Dev nD) : Dev nD := ⟨4 * (c.val / 4) + 2 * ((c.val / 2) % 2) + 1 - c.val % 2, by revert c; decide⟩

/-- The quarter a device reduces. -/
def qo (c : Dev nD) : Fin 4 :=
  ⟨2 * (((c.val / 2) % 2 + c.val % 2) % 2) + (c.val / 4 + c.val % 2) % 2, by revert c; decide⟩

@[simp] theorem ny_ny (c : Dev nD) : ny (ny c) = c := by revert c; decide
@[simp] theorem nx_nx (c : Dev nD) : nx (nx c) = c := by revert c; decide
@[simp] theorem nz_nz (c : Dev nD) : nz (nz c) = c := by revert c; decide

/-! ## Buffers and their chunks -/

/-- The argument, in HBM. -/
abbrev xM : Memref sig .tc .hbm S32768x1024 .f32 := Memref.whole main_arg0
/-- The result, in HBM. -/
abbrev oM : Memref sig .tc .hbm S32768x1024 .bf16 := Memref.whole main_v1
/-- The rounded rows to send along y. -/
abbrev sM : Memref sig .tc .vmem S8192x1024 .bf16 := Memref.whole cc0_scratch0
/-- The rows received along y. -/
abbrev pM : Memref sig .tc .vmem S8192x1024 .bf16 := Memref.whole cc0_scratch1
/-- The reduced quarter. -/
abbrev rM : Memref sig .tc .vmem S8192x1024 .bf16 := Memref.whole cc0_scratch2
/-- The two staging slots of the rows to send. -/
abbrev aM : Memref sig .tc .vmem S2x512x1024 .f32 := Memref.whole cc0_scratch3
/-- The two staging slots of the rows to add. -/
abbrev bM : Memref sig .tc .vmem S2x512x1024 .f32 := Memref.whole cc0_scratch4

theorem inb_row (k : Fin 16) : ∀ a, (![512 * k.val, 0] : Fin 2 → Nat) a + S512x1024.size a ≤ S8192x1024.size a := by
  revert k; decide

/-- The rows of chunk `k` of a quarter. -/
abbrev rowR (k : Fin 16) : Rect S8192x1024 := Rect.unit (s := S8192x1024) ![512 * k.val, 0] S512x1024.size (inb_row k)

theorem words_row (k : Fin 16) : (rowR k).WholeWords (EltTy.packing .bf16) := by revert k; decide
theorem packed_row (k : Fin 16) : (rowR k).PackedRows (EltTy.packing .bf16) := by revert k; decide

theorem inb_slot (b : Fin 2) : ∀ a, (![b.val, 0, 0] : Fin 3 → Nat) a + S1x512x1024.size a ≤ S2x512x1024.size a := by
  revert b; decide

/-- Slot `b` of a staging buffer. -/
abbrev slotR (b : Fin 2) : Rect S2x512x1024 :=
  Rect.unit (s := S2x512x1024) ![b.val, 0, 0] S1x512x1024.size (inb_slot b)

/-- Slot `b` of a staging buffer, as a chunk. -/
abbrev slot (m : Memref sig .tc .vmem S2x512x1024 .f32) (b : Fin 2) : Memref sig .tc .vmem S512x1024 .f32 :=
  (m.slice (slotR b) (fun _ => rfl)).squeeze S512x1024 squeezes_S1x512x1024_S512x1024

/-- Chunk `k` of a quarter-sized buffer. -/
abbrev row (m : Memref sig .tc .vmem S8192x1024 .bf16) (k : Fin 16) : Memref sig .tc .vmem S512x1024 .bf16 :=
  m.slice (rowR k) (fun _ => rfl)

/-- The offset of the `k`-th chunk, as the kernel's word. -/
abbrev off (k : Fin 16) : BitVec 32 := BitVec.ofNat 32 (512 * k.val)

theorem inb_off1 (w : BitVec 32) (hw : w = 1#32 ∨ w = 2#32 ∨ w = 3#32) (c : Dev nD) (k : Fin 16) :
    ∀ a, k0_off1 c w (off k) a + S512x1024.size a ≤ S32768x1024.size a := by
  rcases hw with rfl | rfl | rfl <;> revert c k <;> decide +kernel

/-- The rows of chunk `k` of another quarter than the device's own, named by the word the kernel does. -/
abbrev offR (w : BitVec 32) (hw : w = 1#32 ∨ w = 2#32 ∨ w = 3#32) (c : Dev nD) (k : Fin 16) : Rect S32768x1024 :=
  Rect.unit (s := S32768x1024) (k0_off1 c w (off k)) S512x1024.size (inb_off1 w hw c k)

/-- The rows of chunk `k` of the device's own quarter. -/
abbrev ownR (c : Dev nD) (k : Fin 16) : Rect S32768x1024 :=
  Rect.unit (s := S32768x1024) (k0_off2 c (off k)) S512x1024.size (k0_off2_inb c k)

theorem words_off1 (w : BitVec 32) (hw : w = 1#32 ∨ w = 2#32 ∨ w = 3#32) (c : Dev nD) (k : Fin 16) :
    (offR w hw c k).WholeWords (EltTy.packing .bf16) := by
  rcases hw with rfl | rfl | rfl <;> revert c k <;> decide +kernel

end Cert.AllReduce
-- ==== Proof.Prog.lean ====
/-
  The kernel as a structured program: the steps of a chunk stated once over the chunk's number, and the loops over them.
  The printed body is this program by definition, once both are unfolded.
-/
module

public import proofs.«01_k».proof.Proof.Chan

@[expose] public section

namespace Cert.AllReduce

open Cert.KernelIdeal Cert.KernelIdeal.Gen
open Idealize.ShloMosaic Idealize.ShloMosaic.TcCoe
open Idealize.SL Idealize.SL.Sem

variable {F : FTy → Type} [FloatOps F]

/-- A program of the kernel's. -/
abbrev KProg (F : FTy → Type) : Type → Type _ := Prog (TpuEff nD τ sig (Elt F) Λ₀ .tc)

/-- Run `f i`, …, `f (i + n - 1)`. -/
def seqFrom (f : ℕ → KProg F PUnit) : ℕ → ℕ → KProg F PUnit
  | _, 0 => pure ⟨⟩
  | i, n + 1 => f i >>= fun _ => seqFrom f (i + 1) n

/-- A number as a chunk's. -/
abbrev ch16 (n : ℕ) : Fin 16 := ⟨n % 16, Nat.mod_lt _ (by decide)⟩
/-- A number as a slot's. -/
abbrev ch2 (n : ℕ) : Fin 2 := ⟨n % 2, Nat.mod_lt _ (by decide)⟩
/-- A number below six. -/
abbrev ch6 (n : ℕ) : Fin 6 := ⟨n % 6, Nat.mod_lt _ (by decide)⟩
/-- A number below five. -/
abbrev ch5 (n : ℕ) : Fin 5 := ⟨n % 5, Nat.mod_lt _ (by decide)⟩

/-! ## The devices the kernel addresses, as it computes them -/

/-- The device chunk `k` is sent to along y. -/
def devP (c : Dev nD) : Fin 16 → Dev nD :=
  ![⟨k0_dev4 c, k0_dev4_lt c⟩, ⟨k0_dev5 c, k0_dev5_lt c⟩, ⟨k0_dev6 c, k0_dev6_lt c⟩, ⟨k0_dev7 c, k0_dev7_lt c⟩,
    ⟨k0_dev8 c, k0_dev8_lt c⟩, ⟨k0_dev11 c, k0_dev11_lt c⟩, ⟨k0_dev14 c, k0_dev14_lt c⟩, ⟨k0_dev17 c, k0_dev17_lt c⟩,
    ⟨k0_dev20 c, k0_dev20_lt c⟩, ⟨k0_dev23 c, k0_dev23_lt c⟩, ⟨k0_dev26 c, k0_dev26_lt c⟩, ⟨k0_dev29 c, k0_dev29_lt c⟩,
    ⟨k0_dev32 c, k0_dev32_lt c⟩, ⟨k0_dev35 c, k0_dev35_lt c⟩, ⟨k0_dev38 c, k0_dev38_lt c⟩, ⟨k0_dev41 c, k0_dev41_lt c⟩]
/-- The device reduced chunk `k` is sent to along x. -/
def devX (c : Dev nD) : Fin 16 → Dev nD :=
  ![⟨k0_dev9 c, k0_dev9_lt c⟩, ⟨k0_dev12 c, k0_dev12_lt c⟩, ⟨k0_dev15 c, k0_dev15_lt c⟩, ⟨k0_dev18 c, k0_dev18_lt c⟩,
    ⟨k0_dev21 c, k0_dev21_lt c⟩, ⟨k0_dev24 c, k0_dev24_lt c⟩, ⟨k0_dev27 c, k0_dev27_lt c⟩, ⟨k0_dev30 c, k0_dev30_lt c⟩,
    ⟨k0_dev33 c, k0_dev33_lt c⟩, ⟨k0_dev36 c, k0_dev36_lt c⟩, ⟨k0_dev39 c, k0_dev39_lt c⟩, ⟨k0_dev42 c, k0_dev42_lt c⟩,
    ⟨k0_dev50 c, k0_dev50_lt c⟩, ⟨k0_dev52 c, k0_dev52_lt c⟩, ⟨k0_dev54 c, k0_dev54_lt c⟩, ⟨k0_dev56 c, k0_dev56_lt c⟩]
/-- The device reduced chunk `k` is sent to along z. -/
def devZ (c : Dev nD) : Fin 16 → Dev nD :=
  ![⟨k0_dev10 c, k0_dev10_lt c⟩, ⟨k0_dev13 c, k0_dev13_lt c⟩, ⟨k0_dev16 c, k0_dev16_lt c⟩, ⟨k0_dev19 c, k0_dev19_lt c⟩,
    ⟨k0_dev22 c, k0_dev22_lt c⟩, ⟨k0_dev25 c, k0_dev25_lt c⟩, ⟨k0_dev28 c, k0_dev28_lt c⟩, ⟨k0_dev31 c, k0_dev31_lt c⟩,
    ⟨k0_dev34 c, k0_dev34_lt c⟩, ⟨k0_dev37 c, k0_dev37_lt c⟩, ⟨k0_dev40 c, k0_dev40_lt c⟩, ⟨k0_dev43 c, k0_dev43_lt c⟩,
    ⟨k0_dev51 c, k0_dev51_lt c⟩, ⟨k0_dev53 c, k0_dev53_lt c⟩, ⟨k0_dev55 c, k0_dev55_lt c⟩, ⟨k0_dev57 c, k0_dev57_lt c⟩]
/-- The device reduced chunk `k` is sent to along y. -/
def devY (c : Dev nD) : Fin 6 → Dev nD :=
  ![⟨k0_dev44 c, k0_dev44_lt c⟩, ⟨k0_dev45 c, k0_dev45_lt c⟩, ⟨k0_dev46 c, k0_dev46_lt c⟩, ⟨k0_dev47 c, k0_dev47_lt c⟩,
    ⟨k0_dev48 c, k0_dev48_lt c⟩, ⟨k0_dev49 c, k0_dev49_lt c⟩]
/-- The device the `i`-th forward along x goes to. -/
def devFX (c : Dev nD) : Fin 5 → Dev nD :=
  ![⟨k0_dev58 c, k0_dev58_lt c⟩, ⟨k0_dev59 c, k0_dev59_lt c⟩, ⟨k0_dev60 c, k0_dev60_lt c⟩, ⟨k0_dev61 c, k0_dev61_lt c⟩,
    ⟨k0_dev62 c, k0_dev62_lt c⟩]
/-- The device the `i`-th forward along z goes to. -/
def devFZ (c : Dev nD) : Fin 5 → Dev nD :=
  ![⟨k0_dev63 c, k0_dev63_lt c⟩, ⟨k0_dev64 c, k0_dev64_lt c⟩, ⟨k0_dev65 c, k0_dev65_lt c⟩, ⟨k0_dev66 c, k0_dev66_lt c⟩,
    ⟨k0_dev67 c, k0_dev67_lt c⟩]

theorem devP_eq (c : Dev nD) (k : Fin 16) : devP c k = ny c := by revert c k; decide +kernel
theorem devX_eq (c : Dev nD) (k : Fin 16) : devX c k = nx c := by revert c k; decide +kernel
theorem devZ_eq (c : Dev nD) (k : Fin 16) : devZ c k = nz c := by revert c k; decide +kernel
theorem devY_eq (c : Dev nD) (k : Fin 6) : devY c k = ny c := by revert c k; decide +kernel
theorem devFX_eq (c : Dev nD) (k : Fin 5) : devFX c k = nx c := by revert c k; decide +kernel
theorem devFZ_eq (c : Dev nD) (k : Fin 5) : devFZ c k = nz c := by revert c k; decide +kernel

/-! ## The chunks the kernel names -/

theorem w1 : (1#32 : BitVec 32) = 1#32 ∨ (1#32 : BitVec 32) = 2#32 ∨ (1#32 : BitVec 32) = 3#32 := .inl rfl
theorem w2 : (2#32 : BitVec 32) = 1#32 ∨ (2#32 : BitVec 32) = 2#32 ∨ (2#32 : BitVec 32) = 3#32 := .inr (.inl rfl)
theorem w3 : (3#32 : BitVec 32) = 1#32 ∨ (3#32 : BitVec 32) = 2#32 ∨ (3#32 : BitVec 32) = 3#32 := .inr (.inr rfl)

/-- The argument's chunk to send along y. -/
abbrev xS (c : Dev nD) (k : Fin 16) : Memref sig .tc .hbm S512x1024 .f32 := xM.slice (offR 2#32 w2 c k) (fun _ => rfl)
/-- The argument's chunk to add. -/
abbrev xQ (c : Dev nD) (k : Fin 16) : Memref sig .tc .hbm S512x1024 .f32 := xM.slice (ownR c k) (fun _ => rfl)
/-- The result's chunk of the device's own quarter. -/
abbrev oQ (c : Dev nD) (k : Fin 16) : Memref sig .tc .hbm S512x1024 .bf16 := oM.slice (ownR c k) (fun _ => rfl)
/-- The result's chunk forwarded along x: of the quarter the neighbour along z reduces. -/
abbrev oX (c : Dev nD) (k : Fin 16) : Memref sig .tc .hbm S512x1024 .bf16 := oM.slice (offR 3#32 w3 c k) (fun _ => rfl)
/-- The result's chunk forwarded along z: of the quarter the neighbour along x reduces. -/
abbrev oZ (c : Dev nD) (k : Fin 16) : Memref sig .tc .hbm S512x1024 .bf16 := oM.slice (offR 1#32 w1 c k) (fun _ => rfl)
/-- The result's own quarter. -/
abbrev oOwn (c : Dev nD) : Memref sig .tc .hbm S8192x1024 .bf16 :=
  oM.slice (Rect.unit (s := S32768x1024) (k0_off3 c) S8192x1024.size (k0_off3_inb c)) (fun _ => rfl)

theorem we_row (b : Memref sig .tc .vmem S8192x1024 .bf16) (hb : b.IsWhole) (k : Fin 16) : (row b k).view.WordExact :=
  hb.wordExact_slice rfl _ (words_row k)
theorem we_oQ (c : Dev nD) (k : Fin 16) : (oQ c k).view.WordExact :=
  (Memref.isWhole_whole _).wordExact_slice rfl _ (k0_off2_wordsbf16 c k)
theorem we_oX (c : Dev nD) (k : Fin 16) : (oX c k).view.WordExact := (Memref.isWhole_whole _).wordExact_slice rfl _ (words_off1 _ w3 c k)
theorem we_oZ (c : Dev nD) (k : Fin 16) : (oZ c k).view.WordExact := (Memref.isWhole_whole _).wordExact_slice rfl _ (words_off1 _ w1 c k)
theorem we_oOwn (c : Dev nD) : (oOwn c).view.WordExact := (Memref.isWhole_whole _).wordExact_slice rfl _ (k0_off3_wordsbf16 c)

/-! ## The steps of a chunk -/

/-- The barrier semaphore. -/
abbrev barS : Sem sig := (SemArray.scalar (sig.barrier 0 rfl) : Sems sig S_).sem

/-- Stage the chunk to send. -/
def startS (c : Dev nD) (n : ℕ) : KProg F PUnit :=
  Prog.lift (.enqueueDma (xS c (ch16 n)) (.here (slot aM (ch2 n))) (.dma (Ch.xsd (ch16 n)).sem) (View.wordExact_bits rfl)
    ((View.wordExact_bits rfl).reshape _ _) ⟨Or.inl rfl, trivial⟩)

/-- Stage the chunk to add. -/
def startQ (c : Dev nD) (n : ℕ) : KProg F PUnit :=
  Prog.lift (.enqueueDma (xQ c (ch16 n)) (.here (slot bM (ch2 n))) (.dma (Ch.xqd (ch16 n)).sem) (View.wordExact_bits rfl)
    ((View.wordExact_bits rfl).reshape _ _) ⟨Or.inl rfl, trivial⟩)

/-- Round and send a chunk along y. -/
noncomputable def sendChunk (c : Dev nD) (n : ℕ) : KProg F PUnit := do
  Prog.lift (.waitDma2 (Ch.xsd (ch16 n)).sem (xS c (ch16 n)) (slot aM (ch2 n)) (View.wordExact_bits rfl)
    ((View.wordExact_bits rfl).reshape _ _))
  let v : Vec F S1x512x1024 .f32 ← Prog.lift (.load aM (slotR (ch2 n)).toLoadRect (View.loadsAt_vmem h_S1x512x1024))
  let _u : Vec F S512x1024 .bf16 ← Prog.lift (.load sM (rowR (ch16 n)).toLoadRect (View.loadsAt_vmem h_S512x1024))
  Prog.lift (.store sM (rowR (ch16 n)) (k0_pay1 v) Finset.univ
    (View.stores_vmem h_S512x1024 ((Memref.isWhole_whole _).storeExact_slice rfl _ (packed_row (ch16 n))) (fun _ => rfl)) (.inl rfl))
  if n + 2 < 16 then startS c (n + 2) else pure ⟨⟩
  Prog.lift (.enqueueDma (row sM (ch16 n)) (.remote (Dev.tc (devP c (ch16 n))) (row pM (ch16 n)) (.dma (Ch.p1s (ch16 n)).sem))
    (.dma (Ch.p1r (ch16 n)).sem) (we_row sM (Memref.isWhole_whole _) _) (we_row pM (Memref.isWhole_whole _) _) ⟨⟨rfl, Or.inl rfl⟩, trivial⟩)

/-- Add the received chunk to the own one and send the sum along x and z. -/
noncomputable def addChunk (c : Dev nD) (n : ℕ) : KProg F PUnit := do
  Prog.lift (.waitDma2 (Ch.xqd (ch16 n)).sem (xQ c (ch16 n)) (slot bM (ch2 n)) (View.wordExact_bits rfl)
    ((View.wordExact_bits rfl).reshape _ _))
  Prog.lift (.waitDma2 (Ch.p1s (ch16 n)).sem (row pM (ch16 n)) (row sM (ch16 n)) (we_row pM (Memref.isWhole_whole _) _) (we_row sM (Memref.isWhole_whole _) _))
  Prog.lift (.waitDma2 (Ch.p1r (ch16 n)).sem (row sM (ch16 n)) (row pM (ch16 n)) (we_row sM (Memref.isWhole_whole _) _) (we_row pM (Memref.isWhole_whole _) _))
  let v : Vec F S1x512x1024 .f32 ← Prog.lift (.load bM (slotR (ch2 n)).toLoadRect (View.loadsAt_vmem h_S1x512x1024))
  let w : Vec F S512x1024 .bf16 ← Prog.lift (.load pM (rowR (ch16 n)).toLoadRect (View.loadsAt_vmem h_S512x1024))
  let _u : Vec F S512x1024 .bf16 ← Prog.lift (.load rM (rowR (ch16 n)).toLoadRect (View.loadsAt_vmem h_S512x1024))
  Prog.lift (.store rM (rowR (ch16 n)) (k0_pay6 v w) Finset.univ
    (View.stores_vmem h_S512x1024 ((Memref.isWhole_whole _).storeExact_slice rfl _ (packed_row (ch16 n))) (fun _ => rfl)) (.inl rfl))
  if n + 2 < 16 then startQ c (n + 2) else pure ⟨⟩
  Prog.lift (.enqueueDma (row rM (ch16 n)) (.remote (Dev.tc (devX c (ch16 n))) (oQ c (ch16 n)) (.dma (Ch.gxs (ch16 n)).sem))
    (.dma (Ch.gxr (ch16 n)).sem) (we_row rM (Memref.isWhole_whole _) _) (we_oQ c _) ⟨⟨rfl, Or.inl rfl⟩, trivial⟩)
  Prog.lift (.enqueueDma (row rM (ch16 n)) (.remote (Dev.tc (devZ c (ch16 n))) (oQ c (ch16 n)) (.dma (Ch.gzs (ch16 n)).sem))
    (.dma (Ch.gzr (ch16 n)).sem) (we_row rM (Memref.isWhole_whole _) _) (we_oQ c _) ⟨⟨rfl, Or.inl rfl⟩, trivial⟩)

/-- Send a reduced chunk along y. -/
def sendY (c : Dev nD) (n : ℕ) : KProg F PUnit :=
  Prog.lift (.enqueueDma (row rM (ch16 n)) (.remote (Dev.tc (devY c (ch6 n))) (oQ c (ch16 n)) (.dma (Ch.gyds (ch6 n)).sem))
    (.dma (Ch.gydr (ch6 n)).sem) (we_row rM (Memref.isWhole_whole _) _) (we_oQ c _) ⟨⟨rfl, Or.inl rfl⟩, trivial⟩)

/-- Wait for the own transfer of a reduced chunk on channel `h`. -/
def waitOut (c : Dev nD) (h : Ch) (n : ℕ) : KProg F PUnit :=
  Prog.lift (.waitDma2 h.sem (oQ c (ch16 n)) (row rM (ch16 n)) (we_oQ c _) (we_row rM (Memref.isWhole_whole _) _))

/-- Wait for a received reduced chunk on channel `h`. -/
def waitIn (c : Dev nD) (h : Ch) (n : ℕ) : KProg F PUnit :=
  Prog.lift (.waitDma2 h.sem (row rM (ch16 n)) (oQ c (ch16 n)) (we_row rM (Memref.isWhole_whole _) _) (we_oQ c _))

/-- Forward along x a chunk received along z. -/
def fwdX (c : Dev nD) (n : ℕ) : KProg F PUnit := do
  waitOut c (.gzs (ch16 (n + 6))) (n + 6)
  waitIn c (.gzr (ch16 (n + 6))) (n + 6)
  Prog.lift (.enqueueDma (oX c (ch16 (n + 6))) (.remote (Dev.tc (devFX c (ch5 n))) (oX c (ch16 (n + 6))) (.dma (Ch.fxs (ch5 n)).sem))
    (.dma (Ch.fxr (ch5 n)).sem) (we_oX c _) (we_oX c _) ⟨⟨rfl, Or.inl rfl⟩, trivial⟩)

/-- Forward along z a chunk received along x. -/
def fwdZ (c : Dev nD) (n : ℕ) : KProg F PUnit := do
  waitOut c (.gxs (ch16 (n + 11))) (n + 11)
  waitIn c (.gxr (ch16 (n + 11))) (n + 11)
  Prog.lift (.enqueueDma (oZ c (ch16 (n + 11))) (.remote (Dev.tc (devFZ c (ch5 n))) (oZ c (ch16 (n + 11))) (.dma (Ch.fzs (ch5 n)).sem))
    (.dma (Ch.fzr (ch5 n)).sem) (we_oZ c _) (we_oZ c _) ⟨⟨rfl, Or.inl rfl⟩, trivial⟩)

/-- Wait for both ends of a gather along x. -/
def waitX (c : Dev nD) (n : ℕ) : KProg F PUnit := do
  waitOut c (.gxs (ch16 n)) n
  waitIn c (.gxr (ch16 n)) n

/-- Wait for both ends of a gather along z. -/
def waitZ (c : Dev nD) (n : ℕ) : KProg F PUnit := do
  waitOut c (.gzs (ch16 n)) n
  waitIn c (.gzr (ch16 n)) n

/-- Wait for every transfer of a chunk that was sent along x, z and y. -/
def waitXZY (c : Dev nD) (n : ℕ) : KProg F PUnit := do
  waitX c n
  waitZ c n
  waitOut c (.gyds (ch6 n)) n
  waitIn c (.gydr (ch6 n)) n

/-- Wait for both ends of a forward along x. -/
def waitFX (c : Dev nD) (n : ℕ) : KProg F PUnit := do
  Prog.lift (.waitDma2 (Ch.fxs (ch5 n)).sem (oX c (ch16 (n + 6))) (oX c (ch16 (n + 6))) (we_oX c _) (we_oX c _))
  Prog.lift (.waitDma2 (Ch.fxr (ch5 n)).sem (oX c (ch16 (n + 6))) (oX c (ch16 (n + 6))) (we_oX c _) (we_oX c _))

/-- Wait for both ends of a forward along z. -/
def waitFZ (c : Dev nD) (n : ℕ) : KProg F PUnit := do
  Prog.lift (.waitDma2 (Ch.fzs (ch5 n)).sem (oZ c (ch16 (n + 11))) (oZ c (ch16 (n + 11))) (we_oZ c _) (we_oZ c _))
  Prog.lift (.waitDma2 (Ch.fzr (ch5 n)).sem (oZ c (ch16 (n + 11))) (oZ c (ch16 (n + 11))) (we_oZ c _) (we_oZ c _))

/-- Start copying the reduced quarter to the result. -/
def startLoc (c : Dev nD) : KProg F PUnit :=
  Prog.lift (.enqueueDma rM (.here (oOwn c)) (.dma Ch.loc.sem) (Memref.isWhole_whole _).wordExact (we_oOwn c) ⟨Or.inl rfl, trivial⟩)

/-- Wait for the copy of the reduced quarter. -/
def waitLoc (c : Dev nD) : KProg F PUnit :=
  Prog.lift (.waitDma2 Ch.loc.sem rM (oOwn c) (Memref.isWhole_whole _).wordExact (we_oOwn c))

/-- Signal the three neighbours and wait for theirs. -/
def barrier (c : Dev nD) : KProg F PUnit := do
  semSignalWord (⟨k0_dev1 c, k0_dev1_lt c⟩ : Dev nD) barS 1#32
  semSignalWord (⟨k0_dev2 c, k0_dev2_lt c⟩ : Dev nD) barS 1#32
  semSignalWord (⟨k0_dev3 c, k0_dev3_lt c⟩ : Dev nD) barS 1#32
  semWaitWord barS 3#32

/-- The kernel's program on device `c`. -/
noncomputable def prog (c : Dev nD) : KProg F PUnit := do
  seqFrom (startS c) 0 2
  seqFrom (startQ c) 0 2
  barrier c
  seqFrom (sendChunk c) 0 4
  seqFrom (fun n => do sendChunk c (n + 4); addChunk c n) 0 12
  seqFrom (sendY c) 0 6
  seqFrom (addChunk c) 12 4
  startLoc c
  seqFrom (fwdX c) 0 5
  seqFrom (fwdZ c) 0 5
  seqFrom (waitXZY c) 0 6
  seqFrom (waitX c) 6 5
  seqFrom (waitZ c) 11 5
  seqFrom (waitFX c) 0 5
  seqFrom (waitFZ c) 0 5
  waitLoc c

/-- The printed body reads its device and runs the structured program. -/
theorem body_eq (t : Fin cfg0.N) : (bodyAt0 t : KProg F PUnit) = (Prog.lift .deviceId >>= fun c => prog c) := by
  chain_rfl

end Cert.AllReduce
-- ==== Proof.Sched.lean ====
/-
  The values the kernel computes, what each semaphore's transfer carries, and the schedule of the rounds: one round on
  every semaphore, of three signals on a barrier semaphore and of one transfer on a DMA semaphore.
-/
module

public import proofs.«01_k».proof.Proof.Prog

@[expose] public section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 3)
abbrev UU : Type := UR sig nD τ × UB

local notation "𝕄" => MT nD τ sig Unit (Elt F) ℕ UU ℕ

noncomputable abbrev EP : Emb (UR sig nD τ) (MT nD τ sig Unit (Elt F) ℕ UU ℕ) := embL
noncomputable abbrev ER : Emb UB (MT nD τ sig Unit (Elt F) ℕ UU ℕ) := embR

variable (m : (ℓ : Loc nD τ sig) → Buf (Elt F) ℓ)

/-! ## Blocks of the argument and of the result -/

theorem inb_blk (t : Fin 4) (k : Fin 16) :
    ∀ a, (![8192 * t.val + 512 * k.val, 0] : Fin 2 → Nat) a + S512x1024.size a ≤ S32768x1024.size a := by
  revert t k; decide

/-- The rows of chunk `k` of quarter `t`. -/
abbrev blkR (t : Fin 4) (k : Fin 16) : Rect S32768x1024 :=
  Rect.unit (s := S32768x1024) ![8192 * t.val + 512 * k.val, 0] S512x1024.size (inb_blk t k)

/-- Chunk `k` of quarter `t`. -/
abbrev blk {e : EltTy} (b : Memref sig .tc .hbm S32768x1024 e) (t : Fin 4) (k : Fin 16) : Memref sig .tc .hbm S512x1024 e :=
  b.slice (blkR t k) (fun _ => rfl)

/-- A chunk named by equal offsets is the same chunk. -/
theorem slice_congr {e : EltTy} (b : Memref sig .tc .hbm S32768x1024 e) {o o' : Fin 2 → Nat} (h : o = o') (hi) (hi') :
    b.slice (Rect.unit (s := S32768x1024) o S512x1024.size hi) (fun _ => rfl)
      = b.slice (Rect.unit (s := S32768x1024) o' S512x1024.size hi') (fun _ => rfl) := by subst h; rfl

theorem off_own (c : Dev nD) (k : Fin 16) : k0_off2 c (off k) = ![8192 * (qo c).val + 512 * k.val, 0] := by
  revert c k; decide +kernel
theorem off_y (c : Dev nD) (k : Fin 16) : k0_off1 c 2#32 (off k) = ![8192 * (qo (ny c)).val + 512 * k.val, 0] := by
  revert c k; decide +kernel
theorem off_z (c : Dev nD) (k : Fin 16) : k0_off1 c 3#32 (off k) = ![8192 * (qo (nz c)).val + 512 * k.val, 0] := by
  revert c k; decide +kernel
theorem off_x (c : Dev nD) (k : Fin 16) : k0_off1 c 1#32 (off k) = ![8192 * (qo (nx c)).val + 512 * k.val, 0] := by
  revert c k; decide +kernel

theorem xS_eq (c : Dev nD) (k : Fin 16) : xS c k = blk xM (qo (ny c)) k := slice_congr _ (off_y c k) _ _
theorem xQ_eq (c : Dev nD) (k : Fin 16) : xQ c k = blk xM (qo c) k := slice_congr _ (off_own c k) _ _
theorem oQ_eq (c : Dev nD) (k : Fin 16) : oQ c k = blk oM (qo c) k := slice_congr _ (off_own c k) _ _
theorem oX_eq (c : Dev nD) (k : Fin 16) : oX c k = oQ (nz c) k := (slice_congr _ (off_z c k) _ _).trans (oQ_eq _ _).symm
theorem oZ_eq (c : Dev nD) (k : Fin 16) : oZ c k = oQ (nx c) k := (slice_congr _ (off_x c k) _ _).trans (oQ_eq _ _).symm

/-! ## Values -/

/-- A chunk's contents, in f32. -/
abbrev V32 (F : FTy → Type) : Type := FVec F S512x1024 .f32
/-- A chunk's contents, in bf16. -/
abbrev V16 (F : FTy → Type) : Type := FVec F S512x1024 .bf16

/-- Chunk `k` of quarter `t` of device `c`'s argument at launch. -/
def xv (c : Dev nD) (t : Fin 4) (k : Fin 16) : V32 F :=
  (blk xM t k).view.read (Elt F) (m ((c : Thread nD τ).loc main_arg0))
/-- What device `c` sends along y as chunk `k`. -/
def sv (c : Dev nD) (k : Fin 16) : V16 F := truncf .bf16 (xv m c (qo (ny c)) k) bitsLt_bf16_f32
/-- The reduced chunk `k` of device `c`'s quarter. -/
def rv (c : Dev nD) (k : Fin 16) : V16 F := addf (truncf .bf16 (xv m c (qo c) k) bitsLt_bf16_f32) (sv m (ny c) k)

theorem row_disj (k k' : Fin 16) (h : k ≠ k') : Disjoint (rowR k).set (rowR k').set := by
  rw [Finset.disjoint_left]
  intro i hi hi'
  have h1 := (Rect.mem_set_unit.mp hi) 0
  have h2 := (Rect.mem_set_unit.mp hi') 0
  simp at h1 h2
  exact h (Fin.ext (by omega))

theorem row_cover : (Finset.univ : Finset (Fin 16)).biUnion (fun k => (rowR k).set) = Finset.univ := by
  ext i
  simp only [Finset.mem_biUnion, Finset.mem_univ, true_and, iff_true]
  have h0 : (i 0 : Nat) < 8192 := (i 0).isLt
  have h1 : (i 1 : Nat) < 1024 := (i 1).isLt
  refine ⟨⟨(i 0 : Nat) / 512, by omega⟩, Rect.mem_set_unit.mpr fun a => ?_⟩
  fin_cases a
  · simp; omega
  · simp; omega

/-- The reduced quarter of device `c`: its sixteen chunks together. -/
noncomputable def rq (c : Dev nD) : S8192x1024.Idx → Elt F .bf16 := Rect.glue rowR row_cover (fun k => rv m c k)

theorem rq_row (c : Dev nD) (k : Fin 16) : (fun j => rq m c ((rowR k).emb j)) = rv m c k :=
  funext fun y => Rect.glue_emb rowR row_cover row_disj (fun k => rv m c k) k y

/-! ## Cells, targets and amounts -/

/-- The barrier semaphore of a device. -/
abbrev barCell (c : Dev nD) : GSem nD τ sig := ((c : Thread nD τ), .reg barS)
/-- A channel's semaphore on a device. -/
abbrev cell (c : Dev nD) (h : Ch) : GSem nD τ sig := ((c : Thread nD τ), .dma h.sem)

/-- A channel another device's transfer raises. -/
def Ch.recv : Ch → Bool
  | .p1r _ | .gxr _ | .gzr _ | .gydr _ | .fxr _ | .fzr _ => true
  | _ => false

/-- The device on which device `c`'s own use of channel `h` raises it. -/
def tgt (c : Dev nD) : Ch → Dev nD
  | .p1r _ | .gydr _ => ny c
  | .gxr _ | .fxr _ => nx c
  | .gzr _ | .fzr _ => nz c
  | _ => c

/-- The amount a transfer counts on its channel. -/
def Ch.amt : Ch → ℕ
  | .xsd _ | .xqd _ => (slot aM 0).view.dmaCredit
  | .loc => (rM : Memref sig .tc .vmem S8192x1024 .bf16).view.dmaCredit
  | _ => (row sM 0).view.dmaCredit

theorem Ch.amt_pos (h : Ch) : 0 < h.amt := by
  cases h <;> exact View.dmaCredit_pos _ (by decide)

/-- The order in which waiting is safe: a wait on a channel only happens while owing channels above it. -/
def Ch.lev : Ch → ℕ
  | .p1r k => 2 + k.val
  | .gxr _ | .gzr _ | .gydr _ => 18
  | .fxr _ | .fzr _ => 19
  | _ => 0

/-! ## Payloads -/

/-- Elements owned outright, at some contents. -/
noncomputable def anyOf (c : Dev nD) {sp : Space} {s : Shape} {e : EltTy} (b : Memref sig .tc sp s e) : sProp 𝕄 :=
  iprop(∃ f, (b.view.loc (c : Thread nD τ) ↦[b.view.set]{fullShare} f))

/-- Elements owned at a share, with what they hold. -/
noncomputable abbrev own (c : Dev nD) {sp : Space} {s : Shape} {e : EltTy} (b : Memref sig .tc sp s e) (q : PosShare TreeShare) (X : s.Idx → Elt F e) : sProp 𝕄 :=
  owns (Ix := Unit) (Name := ℕ) (U := UU) (Lvl := ℕ) (c : Thread nD τ) b q X

instance anyOf_storable (c : Dev nD) {sp : Space} {s : Shape} {e : EltTy} (b : Memref sig .tc sp s e) :
    BI.Storable (upEmb : UEmb _ 𝕄) (anyOf (F := F) c b) := by unfold anyOf; infer_instance

/-- The share of the reduced chunks lent to the gather along x, -/
abbrev shX : PosShare TreeShare := fullShare.left.left
/-- along z, -/
abbrev shZ : PosShare TreeShare := fullShare.left.right
/-- along y, -/
abbrev shY : PosShare TreeShare := fullShare.right.left
/-- and to the copy into the own result. -/
abbrev shL : PosShare TreeShare := fullShare.right.right

/-- A chunk's slot. -/
abbrev par (k : Fin 16) : Fin 2 := ch2 k.val
/-- The chunk of the `i`-th forward along x. -/
abbrev fxk (i : Fin 5) : Fin 16 := ⟨i.val + 6, by omega⟩
/-- The chunk of the `i`-th forward along z. -/
abbrev fzk (i : Fin 5) : Fin 16 := ⟨i.val + 11, by omega⟩
/-- A chunk sent along y. -/
abbrev yk (k : Fin 6) : Fin 16 := ⟨k.val, by omega⟩

/-- What a transfer on channel `h` gives to device `c`, once counted: its destination written, or its source back. -/
noncomputable def pay (c : Dev nD) : Ch → sProp 𝕄
  | .xsd k => iprop(own c (slot aM (par k)) fullShare (xv m c (qo (ny c)) k) ∗ own c (xS c k) fullShare (xv m c (qo (ny c)) k))
  | .xqd k => iprop(own c (slot bM (par k)) fullShare (xv m c (qo c) k) ∗ own c (xQ c k) fullShare (xv m c (qo c) k))
  | .p1s k => own c (row sM k) fullShare (sv m c k)
  | .p1r k => own c (row pM k) fullShare (sv m (ny c) k)
  | .gxs k => own c (row rM k) shX (rv m c k)
  | .gxr k => own c (oQ (nx c) k) fullShare (rv m (nx c) k)
  | .gzs k => own c (row rM k) shZ (rv m c k)
  | .gzr k => own c (oQ (nz c) k) fullShare (rv m (nz c) k)
  | .gyds k => own c (row rM (yk k)) shY (rv m c (yk k))
  | .gydr k => own c (oQ (ny c) (yk k)) fullShare (rv m (ny c) (yk k))
  | .fxs i => own c (oX c (fxk i)) fullShare (rv m (nz c) (fxk i))
  | .fxr i => own c (oX (nx c) (fxk i)) fullShare (rv m (nz (nx c)) (fxk i))
  | .fzs i => own c (oZ c (fzk i)) fullShare (rv m (nx c) (fzk i))
  | .fzr i => own c (oZ (nz c) (fzk i)) fullShare (rv m (nx (nz c)) (fzk i))
  | .loc => iprop(own c (oOwn c) fullShare (rq m c) ∗ own c rM shL (rq m c))

/-- What a neighbour's signal gives device `c`: where its transfers to that neighbour land. -/
noncomputable def barPay (c : Dev nD) : Fin 3 → sProp 𝕄
  | 0 => iprop((bigSep Finset.univ fun k : Fin 16 => anyOf (ny c) (row pM k)) ∗ (bigSep Finset.univ fun k : Fin 6 => anyOf (ny c) (oQ c (yk k))))
  | 1 => iprop((bigSep Finset.univ fun k : Fin 16 => anyOf (nx c) (oQ c k)) ∗ (bigSep Finset.univ fun i : Fin 5 => anyOf (nx c) (oX c (fxk i))))
  | 2 => iprop((bigSep Finset.univ fun k : Fin 16 => anyOf (nz c) (oQ c k)) ∗ (bigSep Finset.univ fun i : Fin 5 => anyOf (nz c) (oZ c (fzk i))))

instance pay_storable (c : Dev nD) (h : Ch) : BI.Storable (upEmb : UEmb _ 𝕄) (pay (F := F) m c h) := by
  cases h <;> (unfold pay; infer_instance)
instance barPay_storable (c : Dev nD) (d : Fin 3) : BI.Storable (upEmb : UEmb _ 𝕄) (barPay (F := F) c d) := by
  fin_cases d <;> (simp only [barPay]; infer_instance)

/-! ## The schedule -/

/-- One round on every cell: three signals of one on a barrier cell, one transfer on a DMA cell. -/
noncomputable def Rd : Rounds.Schedule (GSem nD τ sig) (Fin 3) 𝕄 where
  duties g r := if r = 0 ∧ g.1.2 = .tc then (match g.2 with | .reg _ => Finset.univ | .dma _ => {0}) else ∅
  unitless _ := False
  amount g _ _ := match g.2 with | .reg _ => 1 | .dma s => (Ch.of s).amt
  payload g _ d := match g.2 with | .reg _ => barPay g.1.1 d | .dma s => pay m g.1.1 (Ch.of s)
  amount_pos g _ _ _ := by
    rcases g with ⟨t, s | s⟩
    · exact Nat.one_pos
    · exact Ch.amt_pos _

instance Rd_payload_storable (g : GSem nD τ sig) (r : ℕ) (d : Fin 3) : BI.Storable (upEmb : UEmb _ 𝕄) ((Rd (F := F) m).payload g r d) := by
  rcases g with ⟨t, s | s⟩
  · show BI.Storable upEmb (barPay t.1 d); infer_instance
  · show BI.Storable upEmb (pay m t.1 (Ch.of s)); infer_instance

theorem duties_bar (c : Dev nD) : (Rd (F := F) m).duties (barCell c) 0 = Finset.univ := by
  unfold Rd; dsimp only; exact if_pos ⟨rfl, rfl⟩
theorem duties_cell (c : Dev nD) (h : Ch) : (Rd (F := F) m).duties (cell c h) 0 = {0} := by
  unfold Rd; dsimp only; exact if_pos ⟨rfl, rfl⟩
theorem duties_later (g : GSem nD τ sig) : ∀ r, 1 ≤ r → (Rd (F := F) m).duties g r = ∅ :=
  fun r hr => if_neg fun h => by omega
theorem amount_bar (c : Dev nD) (d : Fin 3) : (Rd (F := F) m).amount (barCell c) 0 d = 1 := rfl
theorem amount_cell (c : Dev nD) (h : Ch) (d : Fin 3) : (Rd (F := F) m).amount (cell c h) 0 d = h.amt := by
  show (Ch.of h.sem).amt = h.amt; rw [Ch.of_sem]
theorem payload_bar (c : Dev nD) (d : Fin 3) : (Rd (F := F) m).payload (barCell c) 0 d = barPay c d := rfl
theorem payload_cell (c : Dev nD) (h : Ch) (d : Fin 3) : (Rd (F := F) m).payload (cell c h) 0 d = pay m c h := by
  show pay m c (Ch.of h.sem) = pay m c h; rw [Ch.of_sem]
theorem expect_bar (c : Dev nD) : (Rd (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_cell (c : Dev nD) (h : Ch) : (Rd (F := F) m).expect (cell c h) 0 = h.amt := by
  unfold Schedule.expect Schedule.amountOf; rw [duties_cell, Finset.sum_singleton, amount_cell]
theorem rest_bar (c : Dev nD) :
    bigSep ((Rd (F := F) m).duties (barCell c) 0 \ ∅) (fun d => (Rd (F := F) m).payload (barCell c) 0 d)
      = iprop(barPay c 0 ∗ barPay c 1 ∗ barPay c 2) := by
  rw [Finset.sdiff_empty, duties_bar]
  exact bigSep_univ_eq_bigSepL [(0 : Fin 3), 1, 2] (by decide) (by decide) _
theorem rest_cell (c : Dev nD) (h : Ch) :
    bigSep ((Rd (F := F) m).duties (cell c h) 0 \ ∅) (fun d => (Rd (F := F) m).payload (cell c h) 0 d) = pay m c h := by
  rw [Finset.sdiff_empty, duties_cell, bigSep_singleton, payload_cell]

/-! ## The amounts of the transfers -/

theorem amt_slot (b : Memref sig .tc .vmem S2x512x1024 .f32) (hb : b = aM ∨ b = bM) (i : Fin 2) (k : Fin 16) :
    (slot b i).view.dmaCredit = (Ch.xsd k).amt := by rcases hb with rfl | rfl <;> rfl
theorem amt_p (k k' : Fin 16) : (row pM k).view.dmaCredit = (Ch.p1r k').amt := rfl
theorem amt_s (k k' : Fin 16) : (row sM k).view.dmaCredit = (Ch.p1r k').amt := rfl
theorem amt_r (k k' : Fin 16) : (row rM k).view.dmaCredit = (Ch.p1r k').amt := rfl
theorem amt_oQ (c : Dev nD) (k k' : Fin 16) : (oQ c k).view.dmaCredit = (Ch.p1r k').amt := rfl
theorem amt_oX (c : Dev nD) (k k' : Fin 16) : (oX c k).view.dmaCredit = (Ch.p1r k').amt := rfl
theorem amt_oOwn (c : Dev nD) : (oOwn c).view.dmaCredit = Ch.loc.amt := rfl

end Cert.AllReduce
-- ==== Proof.Ghost.lean ====
/-
  The bookkeeping of the kernel's transfers on one device, and the rules by which the kernel's operations move through it.

  `GS c X U A` says: the channels of `U` are still to be used by device `c` and those of `A` still to be waited for. Each
  rule takes one operation: a transfer removes its channels from `U`, a wait removes its channel from `A`.
-/
module

public import proofs.«01_k».proof.Proof.Sched

@[expose] public section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Sep
variable {I : Type} [DecidableEq I] {R : Type} [URA R]

/-- A separating conjunction over a set, an element put in. -/
theorem sep_insert {s : Finset I} {i : I} (h : i ∉ s) {Φ : I → sProp R} : bigSep (insert i s) Φ = iprop(Φ i ∗ bigSep s Φ) := bigSep_insert h
/-- The same, an element taken out. -/
theorem sep_erase {s : Finset I} {i : I} (h : i ∈ s) {Φ : I → sProp R} : bigSep s Φ = iprop(Φ i ∗ bigSep (s.erase i) Φ) := bigSep_erase h
/-- One element of it. -/
theorem sep_elim {s : Finset I} {i : I} (h : i ∈ s) {Φ : I → sProp R} : (bigSep s Φ : sProp R) ⊢ Φ i := bigSep_elim h

end Sep

abbrev 𝒱₀ : Variants := Variants.none

/-- Channels are numbered by their semaphores. -/
def chEquiv : Fin 161 ≃ Ch where
  toFun s := Ch.of s
  invFun h := h.sem
  left_inv s := Ch.sem_of s
  right_inv h := Ch.of_sem h

instance : Fintype Ch := Fintype.ofEquiv (Fin 161) chEquiv

/-- A device's cells: its barrier semaphore and its channels. -/
def kcell (p : Dev nD × Option Ch) : GSem nD τ sig :=
  match p.2 with
  | none => barCell p.1
  | some h => cell p.1 h

theorem kcell_inj : Function.Injective kcell := by
  rintro ⟨d, _ | h⟩ ⟨d', _ | h'⟩ e
  · have := congrArg (fun g : GSem nD τ sig => g.1.1) e; simp [kcell] at this; rw [this]
  · have := congrArg (fun g : GSem nD τ sig => g.2) e; simp [kcell] at this
  · have := congrArg (fun g : GSem nD τ sig => g.2) e; simp [kcell] at this
  · have h1 := congrArg (fun g : GSem nD τ sig => g.1.1) e
    have h2 := congrArg (fun g : GSem nD τ sig => g.2) e
    simp only [kcell, SemLoc.dma.injEq] at h1 h2
    have h3 : h = h' := by rw [← Ch.of_sem h, ← Ch.of_sem h', h2]
    rw [h3]; exact congrArg (·, some h') h1

theorem cell_inj {c c' : Dev nD} {h h' : Ch} (e : cell c h = cell c' h') : c = c' ∧ h = h' := by
  have := kcell_inj (a₁ := (c, some h)) (a₂ := (c', some h')) e
  simpa using this

/-! ## Levels -/

def L (g : GSem nD τ sig) : Finset Unit := if g.1.2 = .tc then {()} else ∅
/-- A cell's level: barriers at one, a channel at its own. -/
def lv (g : GSem nD τ sig) (_ : Unit) : ℕ := match g.2 with | .reg _ => 1 | .dma s => (Ch.of s).lev

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (h : Ch) : lv (cell c h) () = h.lev := by
  show (Ch.of h.sem).lev = _; rw [Ch.of_sem]

/-! ## What a device owes -/

/-- What using channel `h` will raise on another device. -/
noncomputable def due (c : Dev nD) (h : Ch) : CellTallies nD τ sig Unit := if h.recv then tallyAt (cell (tgt c h) h) () h.amt else 0
/-- What the channels of `U` will raise on other devices. -/
noncomputable def owed (c : Dev nD) (U : Finset Ch) : CellTallies nD τ sig Unit := ∑ h ∈ U, due c h

theorem owed_erase (c : Dev nD) {U : Finset Ch} {h : Ch} (hU : h ∈ U) : owed c U = owed c (U.erase h) + due c h :=
  (Finset.sum_erase_add U (due c) hU).symm

theorem owed_erase_own (c : Dev nD) {U : Finset Ch} {h : Ch} (hr : h.recv = false) : owed c (U.erase h) = owed c U := by
  by_cases hU : h ∈ U
  · rw [owed_erase c hU, due, if_neg (by simp [hr]), add_zero]
  · rw [Finset.erase_eq_of_notMem hU]

theorem due_pos {c : Dev nD} {h : Ch} {g : GSem nD τ sig} {u : Unit} (hp : 0 < due c h g u) : h.recv = true ∧ g = cell (tgt c h) h := by
  unfold due at hp
  by_cases hr : h.recv = true
  · rw [if_pos hr, tallyAt_apply] at hp
    by_cases hg : g = cell (tgt c h) h ∧ u = ()
    · exact ⟨hr, hg.1⟩
    · rw [if_neg hg] at hp; exact absurd hp (Nat.lt_irrefl 0)
  · rw [if_neg hr] at hp; exact absurd hp (Nat.lt_irrefl 0)

theorem owed_pos {c : Dev nD} {U : Finset Ch} {g : GSem nD τ sig} {u : Unit} (hp : 0 < owed c U g u) :
    ∃ h ∈ U, h.recv = true ∧ g = cell (tgt c h) h := by
  unfold owed at hp
  rw [Finset.sum_apply, Finsupp.finset_sum_apply] at hp
  obtain ⟨h, hU, hh⟩ := Finset.exists_ne_zero_of_sum_ne_zero (Nat.pos_iff_ne_zero.mp hp)
  exact ⟨h, hU, due_pos (Nat.pos_of_ne_zero hh)⟩

/-! ## The state of the bookkeeping -/

variable (m : (ℓ : Loc nD τ sig) → Buf (Elt F) ℓ) (K : Dev nD × Option Ch → ℕ)

/-- What every device knows: the invariants of all cells, that their round is open, and the levels. -/
noncomputable def env : sProp 𝕄 :=
  iprop((bigSep Finset.univ fun p : Dev nD × Option Ch => cellInv ER (Rd m) (K p) (kcell p))
    ∗ (bigSep Finset.univ fun p : Dev nD × Option Ch => reached ER (kcell p) 0) ∗ levAts L lv)

instance env_persistent : BI.Persistent (env (F := F) m K) := by unfold env; infer_instance

theorem env_inv (p : Dev nD × Option Ch) : env (F := F) m K ⊢ cellInv ER (Rd m) (K p) (kcell p) := by
  unfold env;
  have h := sep_elim (R := 𝕄) (Finset.mem_univ p) (Φ := fun p => cellInv ER (Rd m) (K p) (kcell p))
  iintro ⟨H, -, -⟩; iapply h; iexact H
theorem env_reached (p : Dev nD × Option Ch) : env (F := F) m K ⊢ reached ER (kcell p) 0 := by
  unfold env;
  have h := sep_elim (R := 𝕄) (Finset.mem_univ p) (Φ := fun p => reached ER (kcell p) 0)
  iintro ⟨-, H, -⟩; iapply h; iexact H

theorem mayWait (c : Dev nD) (g : SemLoc sig) (U : Finset Ch) (hlt : ∀ h' ∈ U, h'.recv = true → lv ((c : Thread nD τ), g) () < h'.lev) :
    env (F := F) m K ⊢ MayWait (c : Thread nD τ) g () (owed c U) := by
  have h0 : (levAts L lv : sProp 𝕄) ⊢ MayWait (c : Thread nD τ) g () (owed c U) :=
    MayOwe.of_cut (L := L) (lev := lv) (lv ((c : Thread nD τ), g) ())
      (fun p hp => by rw [Finset.mem_singleton.mp hp, L_tc]; exact Finset.mem_singleton_self _)
      (fun g u hg => by obtain ⟨h, -, -, rfl⟩ := owed_pos hg; rw [L_tc]; exact Finset.mem_singleton_self _)
      (fun p hp => by rw [Finset.mem_singleton.mp hp])
      (fun g u hg => by obtain ⟨h, hU, hr, rfl⟩ := owed_pos hg; rw [lv_cell]; exact hlt h hU hr)
  unfold env; iintro ⟨-, -, H⟩; iapply h0; iexact H

/-- The bookkeeping of device `c`: it owes `X` besides what `U` will raise; the channels of `U` are still to be used, those
    of `A` still to be waited for. -/
noncomputable def GS (c : Dev nD) (X : CellTallies nD τ sig Unit) (U A : Finset Ch) : sProp 𝕄 :=
  iprop(env m K ∗ (∃ Wt, owes (c : Thread nD τ) (owed c U + X) Wt)
    ∗ (bigSep U fun h => dutyTok ER (cell (tgt c h) h) 0 (0 : Fin 3))
    ∗ (bigSep A fun h => atPos ER (cell c h) 0 ∅ 0)
    ∗ (bigSep (A.filter fun h => h.recv = true ∨ h ∉ U) fun h => cred (tallyAt (cell c h) () h.amt))
    ∗ (bigSep Aᶜ fun h => semVal (cell c h) 0))

/-- A program of device `c` run from here. -/
noncomputable abbrev WP (c : Dev nD) {α : Type} (p : KProg F α) (Q : α → sProp 𝕄) : sProp 𝕄 :=
  wp frame (wpE (defs₀ (F := F)) 𝒱₀ (c : Thread nD τ) none) Set.univ p Q

theorem filter_issue_own {U A : Finset Ch} {h : Ch} (hr : h.recv = false) (hA : h ∈ A) (hU : h ∈ U) :
    A.filter (fun h' => h'.recv = true ∨ h' ∉ U.erase h) = insert h (A.filter fun h' => h'.recv = true ∨ h' ∉ U) := by
  ext x; by_cases hx : x = h
  · subst hx; simp [hA]
  · simp [hx]

theorem filter_issue_recv {U A : Finset Ch} {h : Ch} (hr : h.recv = true) :
    A.filter (fun h' => h'.recv = true ∨ h' ∉ U.erase h) = A.filter fun h' => h'.recv = true ∨ h' ∉ U := by
  ext x; by_cases hx : x = h
  · subst hx; simp [hr]
  · simp [hx]

theorem filter_wait {U A : Finset Ch} {h : Ch} :
    (A.erase h).filter (fun h' => h'.recv = true ∨ h' ∉ U) = (A.filter fun h' => h'.recv = true ∨ h' ∉ U).erase h := by
  ext x; simp; tauto

theorem compl_erase {A : Finset Ch} (h : Ch) : (A.erase h)ᶜ = insert h Aᶜ := by ext x; simp

omit [FloatOps F] in
theorem own_intro (c : Dev nD) {sp : Space} {s : Shape} {e : EltTy} (b : Memref sig .tc sp s e) (q : PosShare TreeShare)
    {f : Buf (Elt F) (b.view.loc (c : Thread nD τ))} {X : s.Idx → Elt F e} (h : b.view.read (Elt F) f = X) :
    (b.view.loc (c : Thread nD τ) ↦[b.view.set]{q} f : sProp 𝕄) ⊢ own c b q X := by
  unfold own owns
  iintro H; iexists f; isplitr; · ipureintro; exact h
  iexact H

omit [FloatOps F] in
theorem any_of_own (c : Dev nD) {sp : Space} {s : Shape} {e : EltTy} (b : Memref sig .tc sp s e) (X : s.Idx → Elt F e) :
    own c b fullShare X ⊢ anyOf c b := by
  unfold own owns anyOf
  iintro ⟨%f, -, H⟩; iexists f; iexact H

omit [FloatOps F] in
theorem own_of_write (c : Dev nD) {sp : Space} {s : Shape} {e : EltTy} (b : Memref sig .tc sp s e) (f : Buf (Elt F) (b.view.loc (c : Thread nD τ)))
    (X : s.Idx → Elt F e) :
    (b.view.loc (c : Thread nD τ) ↦[b.view.set]{fullShare} b.view.write (Elt F) f X Finset.univ : sProp 𝕄) ⊢ own c b fullShare X := by
  exact own_intro c b fullShare (View.read_write_univ ..)

/-- A copy within the device. -/
theorem wp_local (c : Dev nD) (h : Ch) (hr : h.recv = false) {sp sp' : Space} {s : Shape} {e : EltTy} {src : Memref sig .tc sp s e}
    {dst : Memref sig .tc sp' s e} {q : PosShare TreeShare} {X : s.Idx → Elt F e}
    (hamt : dst.view.dmaCredit = h.amt) (hpay : iprop(own c dst fullShare X ∗ own c src q X) ⊢ pay m c h)
    {Y : CellTallies nD τ sig Unit} {U A : Finset Ch} (hU : h ∈ U) (hA : h ∈ A)
    {hsrc : src.view.WordExact} {hdst : dst.view.WordExact} {hsem : DmaTarget.Typed (nD := nD) (τ := τ) (p := .tc) sp (.dma h.sem) (.here dst)}
    {α : Type} {k : PUnit → KProg F α} {Q : α → sProp 𝕄} :
    iprop(GS m K c Y U A ∗ own c src q X ∗ anyOf c dst)
      ⊢ iprop((GS m K c Y (U.erase h) A -∗ WP c (k ⟨⟩) Q) -∗ WP c (.op (.enqueueDma src (.here dst) (.dma h.sem) hsrc hdst hsem) k) Q) := by
  unfold GS anyOf own owns
  rw [owed_erase_own c hr, filter_issue_own hr hA hU, sep_insert (by simp [hr, hU]), sep_erase hU]
  iintro ⟨⟨#He, Ho, ⟨Ht, HT⟩, HA, HC, HZ⟩, ⟨%f, %hf, Hsrc⟩, ⟨%g, Hdst⟩⟩ Hk
  have ht : tgt c h = c := by cases h <;> simp_all [Ch.recv, tgt]
  rw [ht]
  iapply (Rounds.wp_copy_pointsTo 𝒱₀ ER (Rd m) (c : Thread nD τ) none (src := src) (dst := dst) (sem := .dma h.sem) (fs := f) (fd := g) (q := q) (κ := K (c, some h)) (r := 0) (d := (0 : Fin 3))
    (by rw [duties_cell]; exact Finset.mem_singleton_self _) () h.amt hamt (amount_cell m c h 0)
    (by rw [payload_cell]
        refine .trans ?_ hpay
        refine BIClass.sep_mono (by rw [hf]; exact own_of_write c dst g X) ?_
        exact own_intro c src q hf)) $$ [Hsrc Hdst Ht]
  · isplitr; · iapply (env_inv m K (c, some h)); iexact He
    isplitl [Hsrc]; · iexact Hsrc
    isplitl [Hdst]; · iexact Hdst
    isplitl [Ht]; · iexact Ht
    iapply (env_reached m K (c, some h)); iexact He
  iintro Hc
  iapply Hk
  isplitr; · iexact He
  isplitl [Ho]; · iexact Ho
  isplitl [HT]; · iexact HT
  isplitl [HA]; · iexact HA
  isplitl [HC Hc]
  · isplitl [Hc]; · iexact Hc
    iexact HC
  iexact HZ

/-- A copy to another device. -/
theorem wp_remote (c n : Dev nD) (hs hr : Ch) (hsr : hs.recv = false) (hrr : hr.recv = true) (hn : n = tgt c hr)
    {sp sp' : Space} {s : Shape} {e : EltTy} {src : Memref sig .tc sp s e} {dst : Memref sig (Dev.tc n : Thread nD τ).2.kind sp' s e}
    {q : PosShare TreeShare} {X : s.Idx → Elt F e}
    (hamt : dst.view.dmaCredit = hr.amt) (hamt' : hs.amt = hr.amt)
    (hpay₁ : own c src q X ⊢ pay m c hs) (hpay₂ : own n dst fullShare X ⊢ pay m n hr)
    {Y : CellTallies nD τ sig Unit} {U A : Finset Ch} (hsU : hs ∈ U) (hrU : hr ∈ U) (hsA : hs ∈ A)
    {hsc : dst.view.ref.isScScratch = false} {hsrc : src.view.WordExact} {hdst : dst.view.WordExact}
    {hsem : DmaTarget.Typed sp (.dma hr.sem) (.remote (Dev.tc n : Thread nD τ) dst (.dma hs.sem) hsc)}
    {α : Type} {k : PUnit → KProg F α} {Q : α → sProp 𝕄} :
    iprop(GS m K c Y U A ∗ own c src q X ∗ anyOf (tgt c hr) dst)
      ⊢ iprop((GS m K c Y ((U.erase hs).erase hr) A -∗ WP c (k ⟨⟩) Q)
        -∗ WP c (.op (.enqueueDma src (.remote (Dev.tc n : Thread nD τ) dst (.dma hs.sem) hsc) (.dma hr.sem) hsrc hdst hsem) k) Q) := by
  subst hn
  have hne : hr ≠ hs := fun h => by rw [h, hsr] at hrr; exact Bool.noConfusion hrr
  have hrU' : hr ∈ U.erase hs := Finset.mem_erase.mpr ⟨hne, hrU⟩
  unfold GS anyOf own owns
  rw [← owed_erase_own c (U := U) hsr, filter_issue_recv hrr, filter_issue_own hsr hsA hsU, sep_insert (by simp [hsr, hsU]),
    sep_erase hsU, sep_erase hrU', owed_erase c hrU']
  iintro ⟨⟨#He, ⟨%Wt, Ho⟩, ⟨Hts, Htr, HT⟩, HA, HC, HZ⟩, ⟨%f, %hf, Hsrc⟩, ⟨%g, Hdst⟩⟩ Hk
  have ht : tgt c hs = c := by cases hs <;> simp_all [Ch.recv, tgt]
  rw [ht]
  iapply (Rounds.wp_send_pointsTo 𝒱₀ ER (Rd m) (c : Thread nD τ) none (src := src) (dst := dst) (sem := .dma hr.sem) (sS := .dma hs.sem) (fs := f) (q := q) (κ₁ := K (c, some hs)) (κ₂ := K (tgt c hr, some hr))
    (r₁ := 0) (r₂ := 0) (d₁ := (0 : Fin 3)) (d₂ := (0 : Fin 3)) (fd := g) (O₀ := owed c ((U.erase hs).erase hr) + due c hr + Y)
    (by rw [duties_cell]; exact Finset.mem_singleton_self _) (by rw [duties_cell]; exact Finset.mem_singleton_self _)
    () () hr.amt hamt ((amount_cell m c hs 0).trans hamt') (amount_cell m (tgt c hr) hr 0) (owed c ((U.erase hs).erase hr) + Y)
    (by rw [due, if_pos hrr, add_right_comm]) (W := Wt)
    (by rw [payload_cell]
        refine .trans ?_ hpay₁
        exact own_intro c src q hf)
    (by rw [payload_cell]
        refine .trans ?_ hpay₂
        rw [hf]; exact own_of_write _ dst g X)) $$ [Hsrc Hdst Ho Hts Htr]
  · isplitr; · iapply (env_inv m K (c, some hs)); iexact He
    isplitr; · iapply (env_inv m K (tgt c hr, some hr)); iexact He
    isplitl [Hsrc]; · iexact Hsrc
    isplitl [Hdst]; · iexact Hdst
    isplitl [Ho]; · iexact Ho
    isplitl [Hts]; · iexact Hts
    isplitr; · iapply (env_reached m K (c, some hs)); iexact He
    isplitl [Htr]; · iexact Htr
    iapply (env_reached m K (tgt c hr, some hr)); iexact He
  iintro ⟨Hc, Ho⟩
  iapply Hk
  isplitr; · iexact He
  isplitl [Ho]; · iexists Wt; iexact Ho
  isplitl [HT]; · iexact HT
  isplitl [HA]; · iexact HA
  isplitl [HC Hc]
  · rw [← hamt']
    isplitl [Hc]; · iexact Hc
    iexact HC
  iexact HZ

/-- A wait for a channel. -/
theorem wp_await (c : Dev nD) (h : Ch) {sp sp' : Space} {s : Shape} {e : EltTy} {src : Memref sig .tc sp s e} {dst : Memref sig .tc sp' s e}
    (hamt : dst.view.dmaCredit = h.amt) {U A : Finset Ch} (hA : h ∈ A) (hi : h.recv = true ∨ h ∉ U)
    (hlt : ∀ h' ∈ U, h'.recv = true → h.lev < h'.lev)
    {hsrc : src.view.WordExact} {hdst : dst.view.WordExact} {α : Type} {k : PUnit → KProg F α} {Q : α → sProp 𝕄} :
    GS m K c 0 U A
      ⊢ iprop((iprop(GS m K c 0 U (A.erase h) ∗ pay m c h) -∗ WP c (k ⟨⟩) Q)
        -∗ WP c (.op (.waitDma2 h.sem src dst hsrc hdst) k) Q) := by
  unfold GS
  rw [filter_wait, compl_erase, sep_insert (by simp [hA]), sep_erase hA,
    sep_erase (s := A.filter _) (i := h) (Finset.mem_filter.mpr ⟨hA, hi⟩), add_zero]
  iintro ⟨#He, ⟨%Wt, Ho⟩, HT, ⟨Hat, HA⟩, ⟨Hc, HC⟩, HZ⟩ Hk
  iapply (Rounds.wp_wait_rest_token 𝒱₀ ER (Rd m) (c : Thread nD τ) none (κ := K (c, some h))
      (wpE_waitDma2_eq 𝒱₀ (c : Thread nD τ) none Set.univ) (Set.mem_univ _) () (O := owed c U) (W := Wt) (R := 0) (m := 0) (T := ∅)
      (by rw [Nat.zero_add, expect_cell]; exact hamt)) $$ [Hc Ho Hat]
  · isplitr; · iapply (env_inv m K (c, some h)); iexact He
    isplitl [Hc]; · rw [show dst.view.dmaCredit = h.amt from hamt]; iexact Hc
    isplitl [Ho]; · iexact Ho
    isplitr
    · iapply (mayWait m K c (.dma h.sem) U (fun h' hU' hr' => by rw [lv_cell]; exact hlt h' hU' hr')); iexact He
    iexact Hat
  iintro ⟨Ho, Hat, -, Hpay⟩
  imod (Rounds.cell_close ER (Rd m) (Set.mem_univ (K (c, some h))) (fun h => h) (R := 0 + 1) (duties_later m (cell c h))) $$ [Hat] with Hz
  · isplitr; · iapply (env_inv m K (c, some h)); iexact He
    iexact Hat
  iapply Hk
  isplitr [Hpay]
  · isplitr; · iexact He
    isplitl [Ho]; · iexists _; iexact Ho
    isplitl [HT]; · iexact HT
    isplitl [HA]; · iexact HA
    isplitl [HC]; · iexact HC
    isplitl [Hz]; · iexact Hz
    iexact HZ
  iapply (Entails.of_eq (rest_cell m c h)); iexact Hpay

/-! ## Loads, stores and loops -/

/-- Reading a row of a buffer. -/
theorem wp_load_row (c : Dev nD) (b : Memref sig .tc .vmem S8192x1024 .bf16) (j : Fin 16) {q : PosShare TreeShare}
    {X : S512x1024.Idx → Elt F .bf16} {hl : b.view.LoadsAt (rowR j).toLoadRect}
    {α : Type} {k : (S512x1024.Idx → Elt F .bf16) → KProg F α} {Q : α → sProp 𝕄} :
    own c (row b j) q X ⊢ iprop((own c (row b j) q X -∗ WP c (k X) Q) -∗ WP c (.op (.load b (rowR j).toLoadRect hl) k) Q) := by
  unfold own owns
  iintro ⟨%f, %hf, H⟩ Hk
  iapply (wp_load_rect 𝒱₀ (c : Thread nD τ) none Set.univ (m := b) (r := rowR j) (Finset.Subset.refl _)) $$ H
  iintro H
  have hX : (b.access (rowR j)).read (Elt F) f = X := hf
  rw [hX]
  iapply Hk
  iexists f
  isplitr; · ipureintro; exact hf
  iexact H

/-- Reading a row whose contents do not matter. -/
theorem wp_load_any (c : Dev nD) (b : Memref sig .tc .vmem S8192x1024 .bf16) (j : Fin 16)
    {hl : b.view.LoadsAt (rowR j).toLoadRect}
    {α : Type} {p : KProg F α} {Q : α → sProp 𝕄} :
    anyOf c (row b j) ⊢ iprop((anyOf c (row b j) -∗ WP c p Q) -∗ WP c (.op (.load b (rowR j).toLoadRect hl) fun _ => p) Q) := by
  unfold anyOf
  iintro ⟨%f, H⟩ Hk
  iapply (wp_load_rect 𝒱₀ (c : Thread nD τ) none Set.univ (m := b) (r := rowR j) (Finset.Subset.refl _)) $$ H
  iintro H
  iapply Hk
  iexists f
  iexact H

/-- Writing a row. -/
theorem wp_store_row (c : Dev nD) (b : Memref sig .tc .vmem S8192x1024 .bf16) (j : Fin 16) {X : S512x1024.Idx → Elt F .bf16}
    {hx : (b.access (rowR j)).Stores Finset.univ} {hm : (Finset.univ : Finset (rowR j).shape.Idx) = Finset.univ ∨ ∀ a, (rowR j).stride a = 1}
    {α : Type} {k : PUnit → KProg F α} {Q : α → sProp 𝕄} :
    anyOf c (row b j)
      ⊢ iprop((own c (row b j) fullShare X -∗ WP c (k ⟨⟩) Q) -∗ WP c (.op (.store b (rowR j) X Finset.univ hx hm) k) Q) := by
  unfold anyOf
  iintro ⟨%f, H⟩ Hk
  iapply (wp_store 𝒱₀ (c : Thread nD τ) none Set.univ (m := b) (r := rowR j) (Mk := Finset.univ) (S := (row b j).view.set) (Finset.Subset.refl _)) $$ H
  iintro H
  iapply Hk
  iapply (own_of_write c (row b j) f X)
  iexact H

/-- Reading a slot: what is read, reshaped, is what it holds. -/
theorem wp_load_slot (c : Dev nD) (b : Memref sig .tc .vmem S2x512x1024 .f32) (j : Fin 2) {q : PosShare TreeShare}
    {X : S512x1024.Idx → Elt F .f32} {hl : b.view.LoadsAt (slotR j).toLoadRect}
    {α : Type} {k : (S1x512x1024.Idx → Elt F .f32) → KProg F α} {Q : α → sProp 𝕄} :
    own c (slot b j) q X
      ⊢ iprop((∀ v, iprop(⌜shapeCast S512x1024 v shapeCasts_S1x512x1024_S512x1024 = X⌝ ∗ own c (slot b j) q X) -∗ WP c (k v) Q)
        -∗ WP c (.op (.load b (slotR j).toLoadRect hl) k) Q) := by
  unfold own owns
  iintro ⟨%f, %hf, H⟩ Hk
  iapply (wp_load 𝒱₀ (c : Thread nD τ) none Set.univ (m := b) (r := (slotR j).toLoadRect) (S := (slot b j).view.set) (by
    exact le_of_eq ((View.set_reshape _ _).trans (View.set_slice _ _)).symm)) $$ H
  iintro H
  ihave Hk' := Hk $$ %(b.view.readAt (Elt F) (slotR j).toLoadRect f)
  iapply Hk'
  isplitr; · ipureintro; exact hf
  iexists f
  isplitr; · ipureintro; exact hf
  iexact H

theorem WP_bind (c : Dev nD) {α β : Type} (p : KProg F α) (g : α → KProg F β) (Q : β → sProp 𝕄) :
    WP c p (fun x => WP c (g x) Q) ⊢ WP c (p >>= g) Q := Entails.of_eq (wp_bind ..).symm

/-- A loop by its invariant. -/
theorem WP_seq (c : Dev nD) (f : ℕ → KProg F PUnit) (I : ℕ → sProp 𝕄) (n i : ℕ)
    (h : ∀ j, i ≤ j → j < i + n → I j ⊢ WP c (f j) (fun _ => I (j + 1))) :
    I i ⊢ WP c (seqFrom f i n) (fun _ => I (i + n)) := by
  induction n generalizing i with
  | zero => exact fupd_intro
  | succ n ih =>
    refine (h i le_rfl (by omega)).trans (.trans ?_ (WP_bind c (f i) _ _))
    refine wp_mono _ _ _ fun _ => ?_
    have := ih (i + 1) (fun j h1 h2 => h j (by omega) (by omega))
    rw [show i + 1 + n = i + (n + 1) by omega] at this
    exact this

end Cert.AllReduce
-- ==== Proof.Fam.lean ====
/-
  Families of chunks picked by their index, and the sets of channels in use at each stage of the kernel.
-/
module

public import proofs.«01_k».proof.Proof.Ghost

@[expose] public section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

section Fam
variable {R : Type} [URA R] {n : ℕ}

/-- The members of a family whose index satisfies `p`. -/
noncomputable def fam (p : ℕ → Prop) [DecidablePred p] (Φ : Fin n → sProp R) : sProp R :=
  bigSep (Finset.univ.filter fun k : Fin n => p k.val) Φ

/-- One member taken out of, or put into, a family. -/
theorem fam_take {p q : ℕ → Prop} [DecidablePred p] [DecidablePred q] (k : Fin n) (hk : p k.val)
    (h : ∀ j, j < n → (q j ↔ p j ∧ j ≠ k.val)) (Φ : Fin n → sProp R) : fam p Φ = iprop(Φ k ∗ fam q Φ) := by
  unfold fam
  rw [sep_erase (i := k) (by simpa using hk)]
  congr 2
  ext j
  simp only [Finset.mem_erase, Finset.mem_filter, Finset.mem_univ, true_and]
  rw [h j.val j.isLt, ne_eq, Fin.ext_iff]; tauto

theorem fam_congr {p q : ℕ → Prop} [DecidablePred p] [DecidablePred q] (h : ∀ j, j < n → (p j ↔ q j)) (Φ : Fin n → sProp R) :
    fam p Φ = fam q Φ := by
  unfold fam; congr 1; ext j; simpa using h j.val j.isLt

theorem fam_univ {p : ℕ → Prop} [DecidablePred p] (h : ∀ j, j < n → p j) (Φ : Fin n → sProp R) : fam p Φ = bigSep Finset.univ Φ := by
  unfold fam; congr 1; ext j; simpa using h j.val j.isLt

theorem fam_none {p : ℕ → Prop} [DecidablePred p] (h : ∀ j, j < n → ¬ p j) (Φ : Fin n → sProp R) : fam p Φ = iprop(emp) := by
  unfold fam; rw [Finset.filter_false_of_mem (fun j _ => h j.val j.isLt)]; rfl

end Fam

/-! ## The channels still to be used, and still to be waited for -/

/-- Whether a channel is still to be used, when `a`, `b`, `s`, … transfers of its kind have been started. -/
def Uhas (a b s g y x z l : ℕ) : Ch → Bool
  | .xsd k => decide (a ≤ k.val)
  | .xqd k => decide (b ≤ k.val)
  | .p1s k | .p1r k => decide (s ≤ k.val)
  | .gxs k | .gxr k | .gzs k | .gzr k => decide (g ≤ k.val)
  | .gyds k | .gydr k => decide (y ≤ k.val)
  | .fxs i | .fxr i => decide (x ≤ i.val)
  | .fzs i | .fzr i => decide (z ≤ i.val)
  | .loc => decide (l = 0)

def Uset (a b s g y x z l : ℕ) : Finset Ch := Finset.univ.filter fun h => Uhas a b s g y x z l h = true

/-- The place of a chunk in the order the gathers along x are waited for: the forwarded ones first. -/
def rkx (k : ℕ) : ℕ := if 11 ≤ k then k - 11 else k + 5
/-- The same along z. -/
def rkz (k : ℕ) : ℕ := if k < 6 then k + 5 else if k < 11 then k - 6 else k

/-- Whether a channel is still to be waited for, when `i`, `j`, … waits of its kind are done. -/
def Ahas (i j vx vz vy wx wz wl : ℕ) : Ch → Bool
  | .xsd k => decide (i ≤ k.val)
  | .xqd k | .p1s k | .p1r k => decide (j ≤ k.val)
  | .gxs k | .gxr k => decide (vx ≤ rkx k.val)
  | .gzs k | .gzr k => decide (vz ≤ rkz k.val)
  | .gyds k | .gydr k => decide (vy ≤ k.val)
  | .fxs k | .fxr k => decide (wx ≤ k.val)
  | .fzs k | .fzr k => decide (wz ≤ k.val)
  | .loc => decide (wl = 0)

def Aset (i j vx vz vy wx wz wl : ℕ) : Finset Ch := Finset.univ.filter fun h => Ahas i j vx vz vy wx wz wl h = true

section Sets
variable {a b s g y x z l i j vx vz vy wx wz wl : ℕ}

theorem mem_U {h : Ch} : h ∈ Uset a b s g y x z l ↔ Uhas a b s g y x z l h = true := by simp [Uset]
theorem mem_A {h : Ch} : h ∈ Aset i j vx vz vy wx wz wl ↔ Ahas i j vx vz vy wx wz wl h = true := by simp [Aset]

theorem U_xsd {k : Fin 16} (h : k.val = a) : (Uset a b s g y x z l).erase (.xsd k) = Uset (a + 1) b s g y x z l := by
  ext c; cases c <;> simp [mem_U, Uhas, Fin.ext_iff]; omega
theorem U_xqd {k : Fin 16} (h : k.val = b) : (Uset a b s g y x z l).erase (.xqd k) = Uset a (b + 1) s g y x z l := by
  ext c; cases c <;> simp [mem_U, Uhas, Fin.ext_iff]; omega
theorem U_p1 {k : Fin 16} (h : k.val = s) :
    ((Uset a b s g y x z l).erase (.p1s k)).erase (.p1r k) = Uset a b (s + 1) g y x z l := by
  ext c; cases c <;> simp [mem_U, Uhas, Fin.ext_iff] <;> omega
theorem U_g {k : Fin 16} (h : k.val = g) :
    ((((Uset a b s g y x z l).erase (.gxs k)).erase (.gxr k)).erase (.gzs k)).erase (.gzr k) = Uset a b s (g + 1) y x z l := by
  ext c; cases c <;> simp [mem_U, Uhas, Fin.ext_iff] <;> omega
theorem U_gy {k : Fin 6} (h : k.val = y) :
    ((Uset a b s g y x z l).erase (.gyds k)).erase (.gydr k) = Uset a b s g (y + 1) x z l := by
  ext c; cases c <;> simp [mem_U, Uhas, Fin.ext_iff] <;> omega
theorem U_fx {k : Fin 5} (h : k.val = x) :
    ((Uset a b s g y x z l).erase (.fxs k)).erase (.fxr k) = Uset a b s g y (x + 1) z l := by
  ext c; cases c <;> simp [mem_U, Uhas, Fin.ext_iff] <;> omega
theorem U_fz {k : Fin 5} (h : k.val = z) :
    ((Uset a b s g y x z l).erase (.fzs k)).erase (.fzr k) = Uset a b s g y x (z + 1) l := by
  ext c; cases c <;> simp [mem_U, Uhas, Fin.ext_iff] <;> omega
theorem U_loc : (Uset a b s g y x z 0).erase .loc = Uset a b s g y x z 1 := by
  ext c; cases c <;> simp [mem_U, Uhas]

theorem A_xsd {k : Fin 16} (h : k.val = i) : (Aset i j vx vz vy wx wz wl).erase (.xsd k) = Aset (i + 1) j vx vz vy wx wz wl := by
  ext c; cases c <;> simp [mem_A, Ahas, Fin.ext_iff]; omega
theorem A_add {k : Fin 16} (h : k.val = j) :
    (((Aset i j vx vz vy wx wz wl).erase (.xqd k)).erase (.p1s k)).erase (.p1r k) = Aset i (j + 1) vx vz vy wx wz wl := by
  ext c; cases c <;> simp [mem_A, Ahas, Fin.ext_iff] <;> omega

theorem rkx_inj {k k' : ℕ} (h : k < 16) (h' : k' < 16) (e : rkx k = rkx k') : k = k' := by unfold rkx at e; split at e <;> split at e <;> omega
theorem rkz_inj {k k' : ℕ} (h : k < 16) (h' : k' < 16) (e : rkz k = rkz k') : k = k' := by unfold rkz at e; split_ifs at e <;> omega

theorem A_gx {k : Fin 16} (h : rkx k.val = vx) :
    ((Aset i j vx vz vy wx wz wl).erase (.gxs k)).erase (.gxr k) = Aset i j (vx + 1) vz vy wx wz wl := by
  have e : ∀ k' : Fin 16, (¬ k'.val = k.val ∧ vx ≤ rkx k'.val) ↔ vx + 1 ≤ rkx k'.val := fun k' => by
    constructor
    · rintro ⟨hn, hl⟩
      have : rkx k'.val ≠ rkx k.val := fun e => hn (rkx_inj k'.isLt k.isLt e)
      omega
    · intro hl; exact ⟨fun e => by rw [e] at hl; omega, by omega⟩
  ext c; cases c <;> simp [mem_A, Ahas, Fin.ext_iff]
  · exact e _
  · exact e _
theorem A_gz {k : Fin 16} (h : rkz k.val = vz) :
    ((Aset i j vx vz vy wx wz wl).erase (.gzs k)).erase (.gzr k) = Aset i j vx (vz + 1) vy wx wz wl := by
  have e : ∀ k' : Fin 16, (¬ k'.val = k.val ∧ vz ≤ rkz k'.val) ↔ vz + 1 ≤ rkz k'.val := fun k' => by
    constructor
    · rintro ⟨hn, hl⟩
      have : rkz k'.val ≠ rkz k.val := fun e => hn (rkz_inj k'.isLt k.isLt e)
      omega
    · intro hl; exact ⟨fun e => by rw [e] at hl; omega, by omega⟩
  ext c; cases c <;> simp [mem_A, Ahas, Fin.ext_iff]
  · exact e _
  · exact e _
theorem A_gy {k : Fin 6} (h : k.val = vy) :
    ((Aset i j vx vz vy wx wz wl).erase (.gyds k)).erase (.gydr k) = Aset i j vx vz (vy + 1) wx wz wl := by
  ext c; cases c <;> simp [mem_A, Ahas, Fin.ext_iff] <;> omega
theorem A_fx {k : Fin 5} (h : k.val = wx) :
    ((Aset i j vx vz vy wx wz wl).erase (.fxs k)).erase (.fxr k) = Aset i j vx vz vy (wx + 1) wz wl := by
  ext c; cases c <;> simp [mem_A, Ahas, Fin.ext_iff] <;> omega
theorem A_fz {k : Fin 5} (h : k.val = wz) :
    ((Aset i j vx vz vy wx wz wl).erase (.fzs k)).erase (.fzr k) = Aset i j vx vz vy wx (wz + 1) wl := by
  ext c; cases c <;> simp [mem_A, Ahas, Fin.ext_iff] <;> omega
theorem A_loc : (Aset i j vx vz vy wx wz 0).erase .loc = Aset i j vx vz vy wx wz 1 := by
  ext c; cases c <;> simp [mem_A, Ahas]

/-- While gathers and forwards are still to come, waiting for a channel at level zero is safe. -/
theorem lev_zero {h : Ch} (hz : h.lev = 0) : ∀ h' ∈ Uset a b s g y x z l, h'.recv = true → h.lev < h'.lev := by
  intro h' _ hr; rw [hz]; cases h' <;> simp_all [Ch.lev, Ch.recv]
/-- Waiting for chunk `k` along y is safe once it has been sent. -/
theorem lev_p1r {k : Fin 16} (hk : k.val < s) : ∀ h' ∈ Uset a b s g y x z l, h'.recv = true → (Ch.p1r k).lev < h'.lev := by
  intro h' hm hr; cases h' <;> simp_all [Ch.lev, Ch.recv, mem_U, Uhas] <;> omega
/-- Waiting for a gather is safe once all are started. -/
theorem lev_g {h : Ch} (hz : h.lev ≤ 18) (hs : 16 ≤ s) (hg : 16 ≤ g) (hy : 6 ≤ y) :
    ∀ h' ∈ Uset a b s g y x z l, h'.recv = true → h.lev < h'.lev := by
  intro h' hm hr; cases h' <;> simp_all [Ch.lev, Ch.recv, mem_U, Uhas] <;> omega
/-- Waiting for anything is safe once everything is started. -/
theorem lev_all {h : Ch} (hs : 16 ≤ s) (hg : 16 ≤ g) (hy : 6 ≤ y) (hx : 5 ≤ x) (hz : 5 ≤ z) :
    ∀ h' ∈ Uset a b s g y x z l, h'.recv = true → h.lev < h'.lev := by
  intro h' hm hr; cases h' <;> simp_all [Ch.lev, Ch.recv, mem_U, Uhas] <;> omega

end Sets

theorem U_all : Uset 0 0 0 0 0 0 0 0 = Finset.univ := by ext c; cases c <;> simp [mem_U, Uhas]
theorem A_all : Aset 0 0 0 0 0 0 0 0 = Finset.univ := by ext c; cases c <;> simp [mem_A, Ahas]
theorem A_none : Aset 16 16 16 16 6 5 5 1 = ∅ := by
  ext c; cases c <;> simp [mem_A, Ahas] <;> (try unfold rkx) <;> (try unfold rkz) <;> (try split_ifs) <;> omega

theorem par_ch (n : ℕ) : par (ch16 n) = ch2 n := Fin.ext (by simp)
theorem fxk_ch {n : ℕ} (h : n < 5) : fxk (ch5 n) = ch16 (n + 6) := Fin.ext (by simp; omega)
theorem fzk_ch {n : ℕ} (h : n < 5) : fzk (ch5 n) = ch16 (n + 11) := Fin.ext (by simp; omega)
theorem yk_ch {n : ℕ} (h : n < 6) : yk (ch6 n) = ch16 n := Fin.ext (by simp; omega)

end Cert.AllReduce
-- ==== Proof.Send.lean ====
/-
  The first half of the kernel on one device: staging the argument's chunks, sending them along y, adding what was
  received, and sending the sums along x, z and y.
-/
module

public import proofs.«01_k».proof.Proof.Fam
public import Idealize.ShloMosaic.Lib.Pipeline.Value
public import Idealize.ShloMosaic.Lib.MemrefSat

@[expose] public section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Option Ch → ℕ)

/-- A program's first part replaced by what it establishes. -/
theorem WP_step (c : Dev nD) {P R : sProp 𝕄} {p : KProg F PUnit} (h : P ⊢ WP c p (fun _ => R))
    {α : Type} {g : PUnit → KProg F α} {Q : α → sProp 𝕄} :
    P ⊢ iprop((R -∗ WP c (g ⟨⟩) Q) -∗ WP c (p >>= g) Q) := by
  iintro HP HR
  iapply (WP_bind c p g Q)
  ihave H := h $$ HP
  iapply (wp_wand _ _ _) $$ H
  iintro %a H
  iapply HR
  iexact H

theorem WP_ret (c : Dev nD) {α : Type} {x : α} {Q : α → sProp 𝕄} : Q x ⊢ WP c (.ret x : KProg F α) Q := fupd_intro

/-- The same, for a part taken only under a condition. -/
theorem WP_step_if (c : Dev nD) {P R : sProp 𝕄} {C : Prop} [Decidable C] {p : KProg F PUnit}
    (h : P ⊢ WP c (if C then p else pure ⟨⟩) (fun _ => R)) {α : Type} {g : PUnit → KProg F α} {Q : α → sProp 𝕄} :
    P ⊢ iprop((R -∗ WP c (g ⟨⟩) Q) -∗ WP c (if C then p >>= g else g ⟨⟩) Q) := by
  have e : (if C then p >>= g else g ⟨⟩) = (if C then p else pure ⟨⟩) >>= g := by
    by_cases hC : C
    · rw [if_pos hC, if_pos hC]
    · rw [if_neg hC, if_neg hC]; rfl
  rw [e]; exact WP_step c h

/-! ## What the loops hold -/

/-- The rows sent along y, at home: from `a` on, and below `n`. -/
noncomputable def homeS (c : Dev nD) (a n : ℕ) : sProp 𝕄 :=
  fam (fun k => a ≤ k ∨ k < n) fun k : Fin 16 => own c (xS c k) fullShare (xv m c (qo (ny c)) k)
/-- The rows of the own quarter, at home: from `a` on, and below `n`. -/
noncomputable def homeQ (c : Dev nD) (a n : ℕ) : sProp 𝕄 :=
  fam (fun k => a ≤ k ∨ k < n) fun k : Fin 16 => own c (xQ c k) fullShare (xv m c (qo c) k)
/-- The slots no transfer is filling, when transfers below `a` are started and those below `n` done. -/
noncomputable def slots (c : Dev nD) (b : Memref sig .tc .vmem S2x512x1024 .f32) (a n : ℕ) : sProp 𝕄 :=
  fam (fun j => ¬ (n < a ∧ n % 2 = j) ∧ ¬ (n + 1 < a ∧ (n + 1) % 2 = j)) fun j : Fin 2 => anyOf c (slot b j)
/-- The chunks of a buffer from `n` on. -/
noncomputable def rowsFrom (c : Dev nD) (b : Memref sig .tc .vmem S8192x1024 .bf16) (n : ℕ) : sProp 𝕄 :=
  fam (fun k => n ≤ k) fun k : Fin 16 => anyOf c (row b k)
/-- The chunks of a buffer below `n`. -/
noncomputable def rowsTo (c : Dev nD) (b : Memref sig .tc .vmem S8192x1024 .bf16) (n : ℕ) : sProp 𝕄 :=
  fam (fun k => k < n) fun k : Fin 16 => anyOf c (row b k)
/-- The chunks of the own quarter of the result on device `c'`, from `n` on. -/
noncomputable def outFrom (c c' : Dev nD) (n : ℕ) : sProp 𝕄 :=
  fam (fun k => n ≤ k) fun k : Fin 16 => anyOf c' (oQ c k)
/-- The reduced chunks below `n`, at a share. -/
noncomputable def redTo (c : Dev nD) (q : PosShare TreeShare) (n : ℕ) : sProp 𝕄 :=
  fam (fun k => k < n) fun k : Fin 16 => own c (row rM k) q (rv m c k)

/-- The chunks in flight after `n` are done, at most two. -/
abbrev ahead (n : ℕ) : ℕ := min (n + 2) 16

/-! ## Staging -/

theorem startS_loop (c : Dev nD) (Y : CellTallies nD τ sig Unit) :
    iprop(GS m K c Y (Uset 0 0 0 0 0 0 0 0) (Aset 0 0 0 0 0 0 0 0) ∗ homeS m c 0 0 ∗ slots c aM 0 0)
      ⊢ WP c (seqFrom (startS c) 0 2) (fun _ =>
          iprop(GS m K c Y (Uset 2 0 0 0 0 0 0 0) (Aset 0 0 0 0 0 0 0 0) ∗ homeS m c 2 0 ∗ slots c aM 2 0)) := by
  refine WP_seq c (startS c) (fun n => iprop(GS m K c Y (Uset n 0 0 0 0 0 0 0) (Aset 0 0 0 0 0 0 0 0) ∗ homeS m c n 0 ∗ slots c aM n 0))
    2 0 fun n _ hn => ?_
  have hk : n % 16 = n := Nat.mod_eq_of_lt (by omega)
  have hb : n % 2 = n := Nat.mod_eq_of_lt (by omega)
  unfold homeS slots
  rw [fam_take (q := fun k => n + 1 ≤ k ∨ k < 0) (ch16 n) (by dsimp only; omega) (fun j hj => by dsimp only; omega),
    fam_take (q := fun j => ¬ (0 < n + 1 ∧ 0 % 2 = j) ∧ ¬ (0 + 1 < n + 1 ∧ (0 + 1) % 2 = j)) (ch2 n) (by dsimp only; omega) (fun j hj => by dsimp only; omega)]
  iintro ⟨HG, ⟨Hx, HX⟩, ⟨Hs, HS⟩⟩
  unfold startS
  simp only [Prog.lift]
  iapply (wp_local m K c (.xsd (ch16 n)) rfl (src := xS c (ch16 n)) (dst := slot aM (ch2 n)) (amt_slot aM (.inl rfl) _ _)
    (U := Uset n 0 0 0 0 0 0 0) (A := Aset 0 0 0 0 0 0 0 0) (by simp only [pay, par_ch]; exact .rfl) (by simp [mem_U, Uhas, hk]) (by simp [mem_A, Ahas])) $$ [HG Hx Hs]
  · isplitl [HG]; · iexact HG
    isplitl [Hx]; · iexact Hx
    iexact Hs
  rw [U_xsd (by simp [hk])]
  iintro HG
  iapply (WP_ret c)
  isplitl [HG]; · iexact HG
  isplitl [HX]; · iexact HX
  iexact HS

theorem startQ_loop (c : Dev nD) (Y : CellTallies nD τ sig Unit) :
    iprop(GS m K c Y (Uset 2 0 0 0 0 0 0 0) (Aset 0 0 0 0 0 0 0 0) ∗ homeQ m c 0 0 ∗ slots c bM 0 0)
      ⊢ WP c (seqFrom (startQ c) 0 2) (fun _ =>
          iprop(GS m K c Y (Uset 2 2 0 0 0 0 0 0) (Aset 0 0 0 0 0 0 0 0) ∗ homeQ m c 2 0 ∗ slots c bM 2 0)) := by
  refine WP_seq c (startQ c) (fun n => iprop(GS m K c Y (Uset 2 n 0 0 0 0 0 0) (Aset 0 0 0 0 0 0 0 0) ∗ homeQ m c n 0 ∗ slots c bM n 0))
    2 0 fun n _ hn => ?_
  have hk : n % 16 = n := Nat.mod_eq_of_lt (by omega)
  have hb : n % 2 = n := Nat.mod_eq_of_lt (by omega)
  unfold homeQ slots
  rw [fam_take (q := fun k => n + 1 ≤ k ∨ k < 0) (ch16 n) (by dsimp only; omega) (fun j hj => by dsimp only; omega),
    fam_take (q := fun j => ¬ (0 < n + 1 ∧ 0 % 2 = j) ∧ ¬ (0 + 1 < n + 1 ∧ (0 + 1) % 2 = j)) (ch2 n) (by dsimp only; omega) (fun j hj => by dsimp only; omega)]
  iintro ⟨HG, ⟨Hx, HX⟩, ⟨Hs, HS⟩⟩
  unfold startQ
  simp only [Prog.lift]
  iapply (wp_local m K c (.xqd (ch16 n)) rfl (src := xQ c (ch16 n)) (dst := slot bM (ch2 n)) (amt_slot bM (.inr rfl) _ (ch16 n))
    (U := Uset 2 n 0 0 0 0 0 0) (A := Aset 0 0 0 0 0 0 0 0) (by simp only [pay, par_ch]; exact .rfl) (by simp [mem_U, Uhas, hk]) (by simp [mem_A, Ahas])) $$ [HG Hx Hs]
  · isplitl [HG]; · iexact HG
    isplitl [Hx]; · iexact Hx
    iexact Hs
  rw [U_xqd (by simp [hk])]
  iintro HG
  iapply (WP_ret c)
  isplitl [HG]; · iexact HG
  isplitl [HX]; · iexact HX
  iexact HS

/-- A slot just emptied is filled with the next chunk to send, if there is one. -/
theorem restartS (c : Dev nD) (n : ℕ) {b s g i j : ℕ} (hi : i ≤ n + 2) :
    iprop(GS m K c 0 (Uset (ahead n) b s g 0 0 0 0) (Aset i j 0 0 0 0 0 0) ∗ homeS m c (ahead n) (n + 1) ∗ slots c aM (ahead n) (n + 1))
      ⊢ WP c (if n + 2 < 16 then startS c (n + 2) else pure ⟨⟩) (fun _ =>
          iprop(GS m K c 0 (Uset (ahead (n + 1)) b s g 0 0 0 0) (Aset i j 0 0 0 0 0 0) ∗ homeS m c (ahead (n + 1)) (n + 1)
            ∗ slots c aM (ahead (n + 1)) (n + 1))) := by
  by_cases hn : n + 2 < 16
  · rw [if_pos hn]
    have hk : (n + 2) % 16 = n + 2 := Nat.mod_eq_of_lt hn
    have ha : ahead n = n + 2 := by unfold ahead; omega
    have ha' : ahead (n + 1) = n + 2 + 1 := by unfold ahead; omega
    rw [ha, ha']
    unfold homeS slots
    rw [fam_take (q := fun k => n + 2 + 1 ≤ k ∨ k < n + 1) (ch16 (n + 2)) (by dsimp only; omega) (fun j hj => by dsimp only; omega),
      fam_take (q := fun j => ¬ (n + 1 < n + 2 + 1 ∧ (n + 1) % 2 = j) ∧ ¬ (n + 1 + 1 < n + 2 + 1 ∧ (n + 1 + 1) % 2 = j)) (ch2 (n + 2)) (by dsimp only; omega)
        (fun j hj => by dsimp only; omega)]
    iintro ⟨HG, ⟨Hx, HX⟩, ⟨Hs, HS⟩⟩
    unfold startS
    simp only [Prog.lift]
    iapply (wp_local m K c (.xsd (ch16 (n + 2))) rfl (src := xS c (ch16 (n + 2))) (dst := slot aM (ch2 (n + 2))) (amt_slot aM (.inl rfl) _ _)
      (U := Uset (n + 2) b s g 0 0 0 0) (A := Aset i j 0 0 0 0 0 0) (by simp only [pay, par_ch]; exact .rfl) (by simp [mem_U, Uhas, hk])
      (by simp [mem_A, Ahas, hk, hi])) $$ [HG Hx Hs]
    · isplitl [HG]; · iexact HG
      isplitl [Hx]; · iexact Hx
      iexact Hs
    rw [U_xsd (by simp [hk])]
    iintro HG
    iapply (WP_ret c)
    isplitl [HG]; · iexact HG
    isplitl [HX]; · iexact HX
    iexact HS
  · rw [if_neg hn]
    have ha : ahead (n + 1) = ahead n := by unfold ahead; omega
    rw [ha]
    iintro H
    iapply (WP_ret c)
    iexact H

/-- The same for the chunks to add. -/
theorem restartQ (c : Dev nD) (n : ℕ) {a s g y i j : ℕ} (hj : j ≤ n + 2) :
    iprop(GS m K c 0 (Uset a (ahead n) s g y 0 0 0) (Aset i j 0 0 0 0 0 0) ∗ homeQ m c (ahead n) (n + 1) ∗ slots c bM (ahead n) (n + 1))
      ⊢ WP c (if n + 2 < 16 then startQ c (n + 2) else pure ⟨⟩) (fun _ =>
          iprop(GS m K c 0 (Uset a (ahead (n + 1)) s g y 0 0 0) (Aset i j 0 0 0 0 0 0) ∗ homeQ m c (ahead (n + 1)) (n + 1)
            ∗ slots c bM (ahead (n + 1)) (n + 1))) := by
  by_cases hn : n + 2 < 16
  · rw [if_pos hn]
    have hk : (n + 2) % 16 = n + 2 := Nat.mod_eq_of_lt hn
    have ha : ahead n = n + 2 := by unfold ahead; omega
    have ha' : ahead (n + 1) = n + 2 + 1 := by unfold ahead; omega
    rw [ha, ha']
    unfold homeQ slots
    rw [fam_take (q := fun k => n + 2 + 1 ≤ k ∨ k < n + 1) (ch16 (n + 2)) (by dsimp only; omega) (fun j hj => by dsimp only; omega),
      fam_take (q := fun j => ¬ (n + 1 < n + 2 + 1 ∧ (n + 1) % 2 = j) ∧ ¬ (n + 1 + 1 < n + 2 + 1 ∧ (n + 1 + 1) % 2 = j)) (ch2 (n + 2)) (by dsimp only; omega)
        (fun j hj => by dsimp only; omega)]
    iintro ⟨HG, ⟨Hx, HX⟩, ⟨Hs, HS⟩⟩
    unfold startQ
    simp only [Prog.lift]
    iapply (wp_local m K c (.xqd (ch16 (n + 2))) rfl (src := xQ c (ch16 (n + 2))) (dst := slot bM (ch2 (n + 2))) (amt_slot bM (.inr rfl) _ (ch16 0))
      (U := Uset a (n + 2) s g y 0 0 0) (A := Aset i j 0 0 0 0 0 0) (by simp only [pay, par_ch]; exact .rfl) (by simp [mem_U, Uhas, hk])
      (by simp [mem_A, Ahas, hk, hj])) $$ [HG Hx Hs]
    · isplitl [HG]; · iexact HG
      isplitl [Hx]; · iexact Hx
      iexact Hs
    rw [U_xqd (by simp [hk])]
    iintro HG
    iapply (WP_ret c)
    isplitl [HG]; · iexact HG
    isplitl [HX]; · iexact HX
    iexact HS
  · rw [if_neg hn]
    have ha : ahead (n + 1) = ahead n := by unfold ahead; omega
    rw [ha]
    iintro H
    iapply (WP_ret c)
    iexact H

/-! ## Sending along y -/

/-- What sending the next chunk needs, after `n` of them. -/
noncomputable def sendI (c : Dev nD) (n : ℕ) : sProp 𝕄 :=
  iprop(homeS m c (ahead n) n ∗ slots c aM (ahead n) n ∗ rowsFrom c sM n ∗ rowsFrom (ny c) pM n)

theorem pay1_eq (v : Vec F S1x512x1024 .f32) (X : V32 F) (h : shapeCast S512x1024 v shapeCasts_S1x512x1024_S512x1024 = X) :
    k0_pay1 v = truncf .bf16 X bitsLt_bf16_f32 := by
  subst h; unfold k0_pay1; exact shapeCast_self _ _
theorem pay6_eq (v : Vec F S1x512x1024 .f32) (X : V32 F) (w : V16 F) (h : shapeCast S512x1024 v shapeCasts_S1x512x1024_S512x1024 = X) :
    k0_pay6 v w = addf (truncf .bf16 X bitsLt_bf16_f32) w := by
  subst h; unfold k0_pay6; exact shapeCast_self _ _

/-- One chunk rounded and sent. -/
theorem sendChunk_step (c : Dev nD) (n : ℕ) (hn : n < 16) {b g j : ℕ} (hj : j ≤ n) :
    iprop(GS m K c 0 (Uset (ahead n) b n g 0 0 0 0) (Aset n j 0 0 0 0 0 0) ∗ sendI m c n)
      ⊢ WP c (sendChunk c n) (fun _ =>
          iprop(GS m K c 0 (Uset (ahead (n + 1)) b (n + 1) g 0 0 0 0) (Aset (n + 1) j 0 0 0 0 0 0) ∗ sendI m c (n + 1))) := by
  have hk : n % 16 = n := Nat.mod_eq_of_lt hn
  have hH : homeS m c (ahead n) (n + 1) = iprop(own c (xS c (ch16 n)) fullShare (xv m c (qo (ny c)) (ch16 n)) ∗ homeS m c (ahead n) n) := by
    unfold homeS; exact fam_take (ch16 n) (by dsimp only; omega) (fun j hj => by dsimp only [ahead]; omega) _
  have hL : slots (F := F) c aM (ahead n) (n + 1) = iprop(anyOf c (slot aM (ch2 n)) ∗ slots c aM (ahead n) n) := by
    unfold slots; exact fam_take (ch2 n) (by dsimp only [ahead]; omega) (fun j hj => by dsimp only [ahead]; omega) _
  have hS : rowsFrom (F := F) c sM n = iprop(anyOf c (row sM (ch16 n)) ∗ rowsFrom c sM (n + 1)) := by
    unfold rowsFrom; exact fam_take (ch16 n) (by dsimp only; omega) (fun j hj => by dsimp only; omega) _
  have hP : rowsFrom (F := F) (ny c) pM n = iprop(anyOf (ny c) (row pM (ch16 n)) ∗ rowsFrom (ny c) pM (n + 1)) := by
    unfold rowsFrom; exact fam_take (ch16 n) (by dsimp only; omega) (fun j hj => by dsimp only; omega) _
  unfold sendI
  rw [hS, hP]
  iintro ⟨HG, HX, HL, ⟨Hs, HS⟩, ⟨Hp, HP⟩⟩
  unfold sendChunk
  simp only [Prog.lift, Prog.bind_op, Prog.bind_ret, Prog.pure_eq_ret]
  iapply (wp_await m K c (.xsd (ch16 n)) (dst := slot aM (ch2 n)) (amt_slot aM (.inl rfl) _ _)
    (U := Uset (ahead n) b n g 0 0 0 0) (A := Aset n j 0 0 0 0 0 0) (by simp [mem_A, Ahas, hk]) (.inr (by simp [mem_U, Uhas, hk]; omega)) (lev_zero rfl)) $$ [HG]
  · iexact HG
  rw [A_xsd (by simp [hk])]
  simp only [pay, par_ch]
  iintro ⟨HG, Hl, Hx⟩
  iapply (wp_load_slot c aM (ch2 n)) $$ [Hl]
  · iexact Hl
  iintro %v ⟨%hv, Hl⟩
  iapply (wp_load_any c sM (ch16 n)) $$ [Hs]
  · iexact Hs
  iintro Hs
  iapply (wp_store_row c sM (ch16 n)) $$ [Hs]
  · iexact Hs
  iintro Hs
  rw [pay1_eq v _ hv]
  ihave HX := (Entails.of_eq hH.symm) $$ [Hx HX]
  · isplitl [Hx]; · iexact Hx
    iexact HX
  ihave HL := (Entails.of_eq hL.symm) $$ [Hl HL]
  · isplitl [Hl]; · iapply (any_of_own c); iexact Hl
    iexact HL
  iapply (WP_step_if c (restartS m K c n (b := b) (s := n) (g := g) (i := n + 1) (j := j) (by omega))) $$ [HG HX HL]
  · isplitl [HG]; · iexact HG
    isplitl [HX]; · iexact HX
    iexact HL
  iintro ⟨HG, HX, HL⟩
  iapply (wp_remote m K c (devP c (ch16 n)) (.p1s (ch16 n)) (.p1r (ch16 n)) rfl rfl (devP_eq c _) (src := row sM (ch16 n)) (dst := row pM (ch16 n))
    (q := fullShare) (X := sv m c (ch16 n)) rfl rfl .rfl (by rw [devP_eq]; simp only [pay, ny_ny]; exact .rfl)
    (U := Uset (ahead (n + 1)) b n g 0 0 0 0) (A := Aset (n + 1) j 0 0 0 0 0 0)
    (by simp [mem_U, Uhas, hk]) (by simp [mem_U, Uhas, hk]) (by simp [mem_A, Ahas, hk, hj])) $$ [HG Hs Hp]
  · isplitl [HG]; · iexact HG
    isplitl [Hs]; · iexact Hs
    iexact Hp
  rw [U_p1 (by simp [hk])]
  iintro HG
  iapply (WP_ret c)
  isplitl [HG]; · iexact HG
  isplitl [HX]; · iexact HX
  isplitl [HL]; · iexact HL
  isplitl [HS]; · iexact HS
  iexact HP

/-! ## Adding -/

/-- The reduced chunks whose share for y is at home: those below `n` not among the first `y` of six, or among the first `v` of them. -/
noncomputable def redY (c : Dev nD) (y v n : ℕ) : sProp 𝕄 :=
  fam (fun k => (k < n ∧ y ≤ k) ∨ k < v) fun k : Fin 16 => own c (row rM k) shY (rv m c k)
/-- The chunks of the own quarter on the neighbour along y, from `n` on, of the six. -/
noncomputable def outY (c : Dev nD) (n : ℕ) : sProp 𝕄 :=
  fam (fun k => n ≤ k) fun k : Fin 6 => anyOf (ny c) (oQ c (yk k))

/-- What adding the next chunk needs, and what the chunks added left, after `n` of them. -/
noncomputable def addI (c : Dev nD) (y n : ℕ) : sProp 𝕄 :=
  iprop(homeQ m c (ahead n) n ∗ slots c bM (ahead n) n ∗ rowsTo c sM n ∗ rowsTo c pM n ∗ rowsFrom c rM n
    ∗ outFrom c (nx c) n ∗ outFrom c (nz c) n ∗ redY m c y 0 n ∗ redTo m c shL n)

/-- A chunk's four shares. -/
theorem own_quarters (c : Dev nD) {sp : Space} {s : Shape} {e : EltTy} (b : Memref sig .tc sp s e) (X : s.Idx → Elt F e) :
    own c b fullShare X ⊣⊢ iprop((own c b shX X ∗ own c b shZ X) ∗ (own c b shY X ∗ own c b shL X)) :=
  (owns_halves (c : Thread nD τ) b fullShare X).trans (sep_congr (owns_halves ..) (owns_halves ..))

/-- One chunk added and the sum sent along x and z. -/
theorem addChunk_step (c : Dev nD) (n : ℕ) (hn : n < 16) {a s y i : ℕ} (hs : n < s) (hy : y ≤ n) :
    iprop(GS m K c 0 (Uset a (ahead n) s n y 0 0 0) (Aset i n 0 0 0 0 0 0) ∗ addI m c y n)
      ⊢ WP c (addChunk c n) (fun _ =>
          iprop(GS m K c 0 (Uset a (ahead (n + 1)) s (n + 1) y 0 0 0) (Aset i (n + 1) 0 0 0 0 0 0) ∗ addI m c y (n + 1))) := by
  have hk : n % 16 = n := Nat.mod_eq_of_lt hn
  have hH : homeQ m c (ahead n) (n + 1) = iprop(own c (xQ c (ch16 n)) fullShare (xv m c (qo c) (ch16 n)) ∗ homeQ m c (ahead n) n) := by
    unfold homeQ; exact fam_take (ch16 n) (by dsimp only; omega) (fun j hj => by dsimp only [ahead]; omega) _
  have hL : slots (F := F) c bM (ahead n) (n + 1) = iprop(anyOf c (slot bM (ch2 n)) ∗ slots c bM (ahead n) n) := by
    unfold slots; exact fam_take (ch2 n) (by dsimp only [ahead]; omega) (fun j hj => by dsimp only [ahead]; omega) _
  have hR : rowsFrom (F := F) c rM n = iprop(anyOf c (row rM (ch16 n)) ∗ rowsFrom c rM (n + 1)) := by
    unfold rowsFrom; exact fam_take (ch16 n) (by dsimp only; omega) (fun j hj => by dsimp only; omega) _
  have hT : ∀ b, rowsTo (F := F) c b (n + 1) = iprop(anyOf c (row b (ch16 n)) ∗ rowsTo c b n) := fun b => by
    unfold rowsTo; exact fam_take (ch16 n) (by dsimp only; omega) (fun j hj => by dsimp only; omega) _
  have hO : ∀ c', outFrom (F := F) c c' n = iprop(anyOf c' (oQ c (ch16 n)) ∗ outFrom c c' (n + 1)) := fun c' => by
    unfold outFrom; exact fam_take (ch16 n) (by dsimp only; omega) (fun j hj => by dsimp only; omega) _
  have hD : ∀ q, redTo m c q (n + 1) = iprop(own c (row rM (ch16 n)) q (rv m c (ch16 n)) ∗ redTo m c q n) := fun q => by
    unfold redTo; exact fam_take (ch16 n) (by dsimp only; omega) (fun j hj => by dsimp only; omega) _
  have hD' : redY m c y 0 (n + 1) = iprop(own c (row rM (ch16 n)) shY (rv m c (ch16 n)) ∗ redY m c y 0 n) := by
    unfold redY; exact fam_take (ch16 n) (by dsimp only; omega) (fun j hj => by dsimp only; omega) _
  unfold addI
  rw [hR, hO, hO, hT, hT, hD, hD']
  iintro ⟨HG, HX, HL, HS, HP, ⟨Hr, HR⟩, ⟨Ho, HO⟩, ⟨Hz, HZ⟩, HY, HW⟩
  unfold addChunk
  simp only [Prog.lift, Prog.bind_op, Prog.bind_ret, Prog.pure_eq_ret]
  iapply (wp_await m K c (.xqd (ch16 n)) (dst := slot bM (ch2 n)) (amt_slot bM (.inr rfl) _ (ch16 0))
    (U := Uset a (ahead n) s n y 0 0 0) (A := Aset i n 0 0 0 0 0 0) (by simp [mem_A, Ahas, hk]) (.inr (by simp [mem_U, Uhas, hk]; omega)) (lev_zero rfl)) $$ [HG]
  · iexact HG
  iintro ⟨HG, Hq⟩
  iapply (wp_await m K c (.p1s (ch16 n)) (dst := row sM (ch16 n)) rfl
    (U := Uset a (ahead n) s n y 0 0 0) (A := (Aset i n 0 0 0 0 0 0).erase (.xqd (ch16 n))) (by simp [mem_A, Ahas, hk])
    (.inr (by simp [mem_U, Uhas, hk, hs])) (lev_zero rfl)) $$ [HG]
  · iexact HG
  iintro ⟨HG, Hs⟩
  iapply (wp_await m K c (.p1r (ch16 n)) (dst := row pM (ch16 n)) rfl
    (U := Uset a (ahead n) s n y 0 0 0) (A := ((Aset i n 0 0 0 0 0 0).erase (.xqd (ch16 n))).erase (.p1s (ch16 n))) (by simp [mem_A, Ahas, hk])
    (.inl rfl) (lev_p1r (by simp [hk, hs]))) $$ [HG]
  · iexact HG
  iintro ⟨HG, Hp⟩
  rw [A_add (by simp [hk])]
  simp only [pay, par_ch]
  icases Hq with ⟨Hl, Hx⟩
  iapply (wp_load_slot c bM (ch2 n)) $$ [Hl]
  · iexact Hl
  iintro %v ⟨%hv, Hl⟩
  iapply (wp_load_row c pM (ch16 n)) $$ [Hp]
  · iexact Hp
  iintro Hp
  iapply (wp_load_any c rM (ch16 n)) $$ [Hr]
  · iexact Hr
  iintro Hr
  iapply (wp_store_row c rM (ch16 n)) $$ [Hr]
  · iexact Hr
  iintro Hr
  rw [pay6_eq v _ _ hv]
  ihave HX := (Entails.of_eq hH.symm) $$ [Hx HX]
  · isplitl [Hx]; · iexact Hx
    iexact HX
  ihave HL := (Entails.of_eq hL.symm) $$ [Hl HL]
  · isplitl [Hl]; · iapply (any_of_own c); iexact Hl
    iexact HL
  iapply (WP_step_if c (restartQ m K c n (a := a) (s := s) (g := n) (y := y) (i := i) (j := n + 1) (by omega))) $$ [HG HX HL]
  · isplitl [HG]; · iexact HG
    isplitl [HX]; · iexact HX
    iexact HL
  iintro ⟨HG, HX, HL⟩
  ihave Hr := (own_quarters c (row rM (ch16 n)) (rv m c (ch16 n))).1 $$ [Hr]
  · iexact Hr
  icases Hr with ⟨⟨Hr1, Hr2⟩, ⟨Hr3, Hr4⟩⟩
  iapply (wp_remote m K c (devX c (ch16 n)) (.gxs (ch16 n)) (.gxr (ch16 n)) rfl rfl (devX_eq c _) (src := row rM (ch16 n)) (dst := oQ c (ch16 n))
    (q := shX) (X := rv m c (ch16 n)) rfl rfl .rfl (by rw [devX_eq]; simp only [pay, nx_nx]; exact .rfl)
    (U := Uset a (ahead (n + 1)) s n y 0 0 0) (A := Aset i (n + 1) 0 0 0 0 0 0)
    (by simp [mem_U, Uhas, hk]) (by simp [mem_U, Uhas, hk]) (by simp [mem_A, Ahas])) $$ [HG Hr1 Ho]
  · isplitl [HG]; · iexact HG
    isplitl [Hr1]; · iexact Hr1
    iexact Ho
  iintro HG
  iapply (wp_remote m K c (devZ c (ch16 n)) (.gzs (ch16 n)) (.gzr (ch16 n)) rfl rfl (devZ_eq c _) (src := row rM (ch16 n)) (dst := oQ c (ch16 n))
    (q := shZ) (X := rv m c (ch16 n)) rfl rfl .rfl (by rw [devZ_eq]; simp only [pay, nz_nz]; exact .rfl)
    (U := ((Uset a (ahead (n + 1)) s n y 0 0 0).erase (.gxs (ch16 n))).erase (.gxr (ch16 n))) (A := Aset i (n + 1) 0 0 0 0 0 0)
    (by simp [mem_U, Uhas, hk]) (by simp [mem_U, Uhas, hk]) (by simp [mem_A, Ahas])) $$ [HG Hr2 Hz]
  · isplitl [HG]; · iexact HG
    isplitl [Hr2]; · iexact Hr2
    iexact Hz
  rw [U_g (by simp [hk])]
  iintro HG
  iapply (WP_ret c)
  isplitl [HG]; · iexact HG
  isplitl [HX]; · iexact HX
  isplitl [HL]; · iexact HL
  isplitl [Hs HS]
  · isplitl [Hs]; · iapply (any_of_own c); iexact Hs
    iexact HS
  isplitl [Hp HP]
  · isplitl [Hp]; · iapply (any_of_own c); iexact Hp
    iexact HP
  isplitl [HR]; · iexact HR
  isplitl [HO]; · iexact HO
  isplitl [HZ]; · iexact HZ
  isplitl [Hr3 HY]
  · isplitl [Hr3]; · iexact Hr3
    iexact HY
  isplitl [Hr4]; · iexact Hr4
  iexact HW

/-! ## Sending sums along y -/

theorem sendY_loop (c : Dev nD) :
    iprop(GS m K c 0 (Uset 16 14 16 12 0 0 0 0) (Aset 16 12 0 0 0 0 0 0) ∗ redY m c 0 0 12 ∗ outY c 0)
      ⊢ WP c (seqFrom (sendY c) 0 6) (fun _ =>
          iprop(GS m K c 0 (Uset 16 14 16 12 6 0 0 0) (Aset 16 12 0 0 0 0 0 0) ∗ redY m c 6 0 12 ∗ outY c 6)) := by
  refine WP_seq c (sendY c) (fun n => iprop(GS m K c 0 (Uset 16 14 16 12 n 0 0 0) (Aset 16 12 0 0 0 0 0 0) ∗ redY m c n 0 12 ∗ outY c n))
    6 0 fun n _ hn => ?_
  have hk : n % 6 = n := Nat.mod_eq_of_lt (by omega)
  unfold redY outY
  rw [fam_take (q := fun k => (k < 12 ∧ n + 1 ≤ k) ∨ k < 0) (ch16 n) (by dsimp only; omega) (fun j hj => by dsimp only; omega),
    fam_take (q := fun k => n + 1 ≤ k) (ch6 n) (by dsimp only; omega) (fun j hj => by dsimp only; omega)]
  rw [yk_ch (by omega)]
  iintro ⟨HG, ⟨Hr, HR⟩, ⟨Ho, HO⟩⟩
  unfold sendY
  simp only [Prog.lift]
  iapply (wp_remote m K c (devY c (ch6 n)) (.gyds (ch6 n)) (.gydr (ch6 n)) rfl rfl (devY_eq c _) (src := row rM (ch16 n)) (dst := oQ c (ch16 n))
    (q := shY) (X := rv m c (ch16 n)) rfl rfl (by simp only [pay]; rw [yk_ch (by omega)])
    (by rw [devY_eq]; simp only [pay, ny_ny]; rw [yk_ch (by omega)])
    (U := Uset 16 14 16 12 n 0 0 0) (A := Aset 16 12 0 0 0 0 0 0)
    (by simp [mem_U, Uhas, hk]) (by simp [mem_U, Uhas, hk]) (by simp [mem_A, Ahas])) $$ [HG Hr Ho]
  · isplitl [HG]; · iexact HG
    isplitl [Hr]; · iexact Hr
    iexact Ho
  rw [U_gy (by simp [hk])]
  iintro HG
  iapply (WP_ret c)
  isplitl [HG]; · iexact HG
  isplitl [HR]; · iexact HR
  iexact HO

end Cert.AllReduce
-- ==== Proof.Recv.lean ====
/-
  The second half of the kernel on one device: copying the own sum to the result, forwarding received chunks along x and
  z, and waiting for everything.
-/
module

public import proofs.«01_k».proof.Proof.Send

@[expose] public section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Option Ch → ℕ)

/-! ## What the loops hold -/

/-- The reduced chunks back from the gather along x, the first `v` in the order of the waits. -/
noncomputable def backX (c : Dev nD) (v : ℕ) : sProp 𝕄 :=
  fam (fun k => rkx k < v) fun k : Fin 16 => own c (row rM k) shX (rv m c k)
/-- The same along z. -/
noncomputable def backZ (c : Dev nD) (v : ℕ) : sProp 𝕄 :=
  fam (fun k => rkz k < v) fun k : Fin 16 => own c (row rM k) shZ (rv m c k)
/-- The chunks received along x that are not lent to a forward: of the first eleven those waited for, of the others those below `w`. -/
noncomputable def inX (c : Dev nD) (v w : ℕ) : sProp 𝕄 :=
  fam (fun k => (k < 11 ∧ k + 5 < v) ∨ (11 ≤ k ∧ k < w)) fun k : Fin 16 => own c (oQ (nx c) k) fullShare (rv m (nx c) k)
/-- The same along z, the forwarded ones being the middle five. -/
noncomputable def inZ (c : Dev nD) (v w : ℕ) : sProp 𝕄 :=
  fam (fun k => (k < 6 ∧ k + 5 < v) ∨ (6 ≤ k ∧ k < 11 ∧ k < w) ∨ (11 ≤ k ∧ k < v)) fun k : Fin 16 => own c (oQ (nz c) k) fullShare (rv m (nz c) k)
/-- The first `v` chunks received along y. -/
noncomputable def inY (c : Dev nD) (v : ℕ) : sProp 𝕄 :=
  fam (fun k => k < v) fun k : Fin 6 => own c (oQ (ny c) (yk k)) fullShare (rv m (ny c) (yk k))
/-- The first `w` chunks forwarded here along x. -/
noncomputable def inFX (c : Dev nD) (w : ℕ) : sProp 𝕄 :=
  fam (fun i => i < w) fun i : Fin 5 => own c (oX (nx c) (fxk i)) fullShare (rv m (nz (nx c)) (fxk i))
/-- The first `w` chunks forwarded here along z. -/
noncomputable def inFZ (c : Dev nD) (w : ℕ) : sProp 𝕄 :=
  fam (fun i => i < w) fun i : Fin 5 => own c (oZ (nz c) (fzk i)) fullShare (rv m (nx (nz c)) (fzk i))
/-- Where forwards along x land, from `n` on. -/
noncomputable def outFX (c : Dev nD) (n : ℕ) : sProp 𝕄 :=
  fam (fun i => n ≤ i) fun i : Fin 5 => anyOf (nx c) (oX c (fxk i))
/-- Where forwards along z land, from `n` on. -/
noncomputable def outFZ (c : Dev nD) (n : ℕ) : sProp 𝕄 :=
  fam (fun i => n ≤ i) fun i : Fin 5 => anyOf (nz c) (oZ c (fzk i))

/-- The channels still to be used once every chunk is sent and the own copy started. -/
abbrev Ufw (x z : ℕ) : Finset Ch := Uset 16 16 16 16 6 x z 1

/-! ## Waiting for the gathers -/

theorem waitX_step (c : Dev nD) (n : ℕ) (hn : n < 16) {x z vx vz vy wx wz wl : ℕ} (hv : rkx n = vx) :
    iprop(GS m K c 0 (Ufw x z) (Aset 16 16 vx vz vy wx wz wl) ∗ backX m c vx)
      ⊢ WP c (waitX c n) (fun _ => iprop(GS m K c 0 (Ufw x z) (Aset 16 16 (vx + 1) vz vy wx wz wl) ∗ backX m c (vx + 1)
          ∗ own c (oQ (nx c) (ch16 n)) fullShare (rv m (nx c) (ch16 n)))) := by
  have hk : n % 16 = n := Nat.mod_eq_of_lt hn
  have hB : backX m c (vx + 1) = iprop(own c (row rM (ch16 n)) shX (rv m c (ch16 n)) ∗ backX m c vx) := by
    unfold backX
    refine fam_take (ch16 n) (by dsimp only; rw [hk]; omega) (fun j hj => ?_) _
    dsimp only; rw [hk]
    constructor
    · intro h
      have hne : j ≠ n := fun e => by rw [e] at h; omega
      exact ⟨by omega, hne⟩
    · rintro ⟨h, hne⟩
      have : rkx j ≠ rkx n := fun e => hne (rkx_inj hj hn e)
      omega
  rw [hB]
  iintro ⟨HG, HB⟩
  unfold waitX waitOut waitIn
  simp only [Prog.lift, Prog.bind_op, Prog.bind_ret, Prog.pure_eq_ret]
  iapply (wp_await m K c (.gxs (ch16 n)) (dst := row rM (ch16 n)) rfl
    (U := Ufw x z) (A := Aset 16 16 vx vz vy wx wz wl) (by simp [mem_A, Ahas, hk, hv]) (.inr (by simp [mem_U, Uhas]; omega))
    (lev_zero rfl)) $$ [HG]
  · iexact HG
  iintro ⟨HG, Hr⟩
  iapply (wp_await m K c (.gxr (ch16 n)) (dst := oQ c (ch16 n)) rfl
    (U := Ufw x z) (A := (Aset 16 16 vx vz vy wx wz wl).erase (.gxs (ch16 n))) (by simp [mem_A, Ahas, hk, hv]) (.inl rfl)
    (lev_g (le_refl 18) le_rfl le_rfl le_rfl)) $$ [HG]
  · iexact HG
  rw [A_gx (by simp [hk, hv])]
  simp only [pay]
  iintro ⟨HG, Ho⟩
  iapply (WP_ret c)
  isplitl [HG]; · iexact HG
  isplitl [Hr HB]
  · isplitl [Hr]; · iexact Hr
    iexact HB
  iexact Ho

theorem waitZ_step (c : Dev nD) (n : ℕ) (hn : n < 16) {x z vx vz vy wx wz wl : ℕ} (hv : rkz n = vz) :
    iprop(GS m K c 0 (Ufw x z) (Aset 16 16 vx vz vy wx wz wl) ∗ backZ m c vz)
      ⊢ WP c (waitZ c n) (fun _ => iprop(GS m K c 0 (Ufw x z) (Aset 16 16 vx (vz + 1) vy wx wz wl) ∗ backZ m c (vz + 1)
          ∗ own c (oQ (nz c) (ch16 n)) fullShare (rv m (nz c) (ch16 n)))) := by
  have hk : n % 16 = n := Nat.mod_eq_of_lt hn
  have hB : backZ m c (vz + 1) = iprop(own c (row rM (ch16 n)) shZ (rv m c (ch16 n)) ∗ backZ m c vz) := by
    unfold backZ
    refine fam_take (ch16 n) (by dsimp only; rw [hk]; omega) (fun j hj => ?_) _
    dsimp only; rw [hk]
    constructor
    · intro h
      have hne : j ≠ n := fun e => by rw [e] at h; omega
      exact ⟨by omega, hne⟩
    · rintro ⟨h, hne⟩
      have : rkz j ≠ rkz n := fun e => hne (rkz_inj hj hn e)
      omega
  rw [hB]
  iintro ⟨HG, HB⟩
  unfold waitZ waitOut waitIn
  simp only [Prog.lift, Prog.bind_op, Prog.bind_ret, Prog.pure_eq_ret]
  iapply (wp_await m K c (.gzs (ch16 n)) (dst := row rM (ch16 n)) rfl
    (U := Ufw x z) (A := Aset 16 16 vx vz vy wx wz wl) (by simp [mem_A, Ahas, hk, hv]) (.inr (by simp [mem_U, Uhas]; omega))
    (lev_zero rfl)) $$ [HG]
  · iexact HG
  iintro ⟨HG, Hr⟩
  iapply (wp_await m K c (.gzr (ch16 n)) (dst := oQ c (ch16 n)) rfl
    (U := Ufw x z) (A := (Aset 16 16 vx vz vy wx wz wl).erase (.gzs (ch16 n))) (by simp [mem_A, Ahas, hk, hv]) (.inl rfl)
    (lev_g (le_refl 18) le_rfl le_rfl le_rfl)) $$ [HG]
  · iexact HG
  rw [A_gz (by simp [hk, hv])]
  simp only [pay]
  iintro ⟨HG, Ho⟩
  iapply (WP_ret c)
  isplitl [HG]; · iexact HG
  isplitl [Hr HB]
  · isplitl [Hr]; · iexact Hr
    iexact HB
  iexact Ho

/-! ## Forwarding -/

theorem fwdX_loop (c : Dev nD) :
    iprop(GS m K c 0 (Ufw 0 0) (Aset 16 16 0 0 0 0 0 0) ∗ backZ m c 0 ∗ outFX c 0)
      ⊢ WP c (seqFrom (fwdX c) 0 5) (fun _ =>
          iprop(GS m K c 0 (Ufw 5 0) (Aset 16 16 0 5 0 0 0 0) ∗ backZ m c 5 ∗ outFX c 5)) := by
  refine WP_seq c (fwdX c) (fun n => iprop(GS m K c 0 (Ufw n 0) (Aset 16 16 0 n 0 0 0 0) ∗ backZ m c n ∗ outFX c n))
    5 0 fun n _ hn => ?_
  have hk : n % 5 = n := Nat.mod_eq_of_lt (by omega)
  have hO : outFX (F := F) c n = iprop(anyOf (nx c) (oX c (fxk (ch5 n))) ∗ outFX c (n + 1)) := by
    unfold outFX; exact fam_take (ch5 n) (by dsimp only; omega) (fun j hj => by dsimp only; omega) _
  rw [hO, fxk_ch (by omega)]
  iintro ⟨HG, HB, ⟨Hd, HO⟩⟩
  have hp : fwdX (F := F) c n = waitZ c (n + 6) >>= fun _ =>
      Prog.lift (.enqueueDma (oX c (ch16 (n + 6))) (.remote (Dev.tc (devFX c (ch5 n))) (oX c (ch16 (n + 6))) (.dma (Ch.fxs (ch5 n)).sem))
        (.dma (Ch.fxr (ch5 n)).sem) (we_oX c _) (we_oX c _) ⟨⟨rfl, Or.inl rfl⟩, trivial⟩) := rfl
  rw [hp]
  iapply (WP_step c (waitZ_step m K c (n + 6) (by omega) (x := n) (z := 0) (vx := 0) (vy := 0) (wx := 0) (wz := 0) (wl := 0) (vz := n)
    (by unfold rkz; split_ifs <;> omega))) $$ [HG HB]
  · isplitl [HG]; · iexact HG
    iexact HB
  iintro ⟨HG, HB, Hr⟩
  simp only [Prog.lift]
  rw [← oX_eq]
  iapply (wp_remote m K c (devFX c (ch5 n)) (.fxs (ch5 n)) (.fxr (ch5 n)) rfl rfl (devFX_eq c _) (src := oX c (ch16 (n + 6))) (dst := oX c (ch16 (n + 6)))
    (q := fullShare) (X := rv m (nz c) (ch16 (n + 6))) rfl rfl (by simp only [pay]; rw [fxk_ch (by omega)])
    (by rw [devFX_eq]; simp only [pay, nx_nx]; rw [fxk_ch (by omega)])
    (U := Ufw n 0) (A := Aset 16 16 0 (n + 1) 0 0 0 0)
    (by simp [mem_U, Uhas, hk]) (by simp [mem_U, Uhas, hk]) (by simp [mem_A, Ahas])) $$ [HG Hr Hd]
  · isplitl [HG]; · iexact HG
    isplitl [Hr]; · iexact Hr
    iexact Hd
  rw [U_fx (by simp [hk])]
  iintro HG
  iapply (WP_ret c)
  isplitl [HG]; · iexact HG
  isplitl [HB]; · iexact HB
  iexact HO

theorem fwdZ_loop (c : Dev nD) :
    iprop(GS m K c 0 (Ufw 5 0) (Aset 16 16 0 5 0 0 0 0) ∗ backX m c 0 ∗ outFZ c 0)
      ⊢ WP c (seqFrom (fwdZ c) 0 5) (fun _ =>
          iprop(GS m K c 0 (Ufw 5 5) (Aset 16 16 5 5 0 0 0 0) ∗ backX m c 5 ∗ outFZ c 5)) := by
  refine WP_seq c (fwdZ c) (fun n => iprop(GS m K c 0 (Ufw 5 n) (Aset 16 16 n 5 0 0 0 0) ∗ backX m c n ∗ outFZ c n))
    5 0 fun n _ hn => ?_
  have hk : n % 5 = n := Nat.mod_eq_of_lt (by omega)
  have hO : outFZ (F := F) c n = iprop(anyOf (nz c) (oZ c (fzk (ch5 n))) ∗ outFZ c (n + 1)) := by
    unfold outFZ; exact fam_take (ch5 n) (by dsimp only; omega) (fun j hj => by dsimp only; omega) _
  rw [hO, fzk_ch (by omega)]
  iintro ⟨HG, HB, ⟨Hd, HO⟩⟩
  have hp : fwdZ (F := F) c n = waitX c (n + 11) >>= fun _ =>
      Prog.lift (.enqueueDma (oZ c (ch16 (n + 11))) (.remote (Dev.tc (devFZ c (ch5 n))) (oZ c (ch16 (n + 11))) (.dma (Ch.fzs (ch5 n)).sem))
        (.dma (Ch.fzr (ch5 n)).sem) (we_oZ c _) (we_oZ c _) ⟨⟨rfl, Or.inl rfl⟩, trivial⟩) := rfl
  rw [hp]
  iapply (WP_step c (waitX_step m K c (n + 11) (by omega) (x := 5) (z := n) (vx := n) (vy := 0) (wx := 0) (wz := 0) (wl := 0) (vz := 5)
    (by unfold rkx; split_ifs <;> omega))) $$ [HG HB]
  · isplitl [HG]; · iexact HG
    iexact HB
  iintro ⟨HG, HB, Hr⟩
  simp only [Prog.lift]
  rw [← oZ_eq]
  iapply (wp_remote m K c (devFZ c (ch5 n)) (.fzs (ch5 n)) (.fzr (ch5 n)) rfl rfl (devFZ_eq c _) (src := oZ c (ch16 (n + 11))) (dst := oZ c (ch16 (n + 11)))
    (q := fullShare) (X := rv m (nx c) (ch16 (n + 11))) rfl rfl (by simp only [pay]; rw [fzk_ch (by omega)])
    (by rw [devFZ_eq]; simp only [pay, nz_nz]; rw [fzk_ch (by omega)])
    (U := Ufw 5 n) (A := Aset 16 16 (n + 1) 5 0 0 0 0)
    (by simp [mem_U, Uhas, hk]) (by simp [mem_U, Uhas, hk]) (by simp [mem_A, Ahas])) $$ [HG Hr Hd]
  · isplitl [HG]; · iexact HG
    isplitl [Hr]; · iexact Hr
    iexact Hd
  rw [U_fz (by simp [hk])]
  iintro HG
  iapply (WP_ret c)
  isplitl [HG]; · iexact HG
  isplitl [HB]; · iexact HB
  iexact HO

/-! ## The last waits -/

theorem waitXZY_loop (c : Dev nD) :
    iprop(GS m K c 0 (Ufw 5 5) (Aset 16 16 5 5 0 0 0 0) ∗ backX m c 5 ∗ backZ m c 5 ∗ redY m c 6 0 16 ∗ inX m c 5 11 ∗ inZ m c 5 6 ∗ inY m c 0)
      ⊢ WP c (seqFrom (waitXZY c) 0 6) (fun _ =>
          iprop(GS m K c 0 (Ufw 5 5) (Aset 16 16 11 11 6 0 0 0) ∗ backX m c 11 ∗ backZ m c 11 ∗ redY m c 6 6 16 ∗ inX m c 11 11 ∗ inZ m c 11 6
            ∗ inY m c 6)) := by
  refine WP_seq c (waitXZY c) (fun n => iprop(GS m K c 0 (Ufw 5 5) (Aset 16 16 (n + 5) (n + 5) n 0 0 0) ∗ backX m c (n + 5) ∗ backZ m c (n + 5)
    ∗ redY m c 6 n 16 ∗ inX m c (n + 5) 11 ∗ inZ m c (n + 5) 6 ∗ inY m c n)) 6 0 fun n _ hn => ?_
  have hk : n % 6 = n := Nat.mod_eq_of_lt (by omega)
  have hX : inX m c (n + 1 + 5) 11 = iprop(own c (oQ (nx c) (ch16 n)) fullShare (rv m (nx c) (ch16 n)) ∗ inX m c (n + 5) 11) := by
    unfold inX; exact fam_take (ch16 n) (by dsimp only; omega) (fun j hj => by dsimp only; omega) _
  have hZ : inZ m c (n + 1 + 5) 6 = iprop(own c (oQ (nz c) (ch16 n)) fullShare (rv m (nz c) (ch16 n)) ∗ inZ m c (n + 5) 6) := by
    unfold inZ; exact fam_take (ch16 n) (by dsimp only; omega) (fun j hj => by dsimp only; omega) _
  have hY : inY m c (n + 1) = iprop(own c (oQ (ny c) (yk (ch6 n))) fullShare (rv m (ny c) (yk (ch6 n))) ∗ inY m c n) := by
    unfold inY; exact fam_take (ch6 n) (by dsimp only; omega) (fun j hj => by dsimp only; omega) _
  have hR : redY m c 6 (n + 1) 16 = iprop(own c (row rM (yk (ch6 n))) shY (rv m c (yk (ch6 n))) ∗ redY m c 6 n 16) := by
    unfold redY; exact fam_take (yk (ch6 n)) (by dsimp only; omega) (fun j hj => by dsimp only; omega) _
  rw [hX, hZ, hY, hR]
  iintro ⟨HG, HBX, HBZ, HR, HIX, HIZ, HIY⟩
  unfold waitXZY
  iapply (WP_step c (waitX_step m K c n (by omega) (x := 5) (z := 5) (vx := n + 5) (vz := n + 5) (vy := n) (wx := 0) (wz := 0) (wl := 0)
    (by unfold rkx; split_ifs <;> omega))) $$ [HG HBX]
  · isplitl [HG]; · iexact HG
    iexact HBX
  iintro ⟨HG, HBX, Hx⟩
  iapply (WP_step c (waitZ_step m K c n (by omega) (x := 5) (z := 5) (vx := n + 5 + 1) (vz := n + 5) (vy := n) (wx := 0) (wz := 0) (wl := 0)
    (by unfold rkz; split_ifs <;> omega))) $$ [HG HBZ]
  · isplitl [HG]; · iexact HG
    iexact HBZ
  iintro ⟨HG, HBZ, Hz⟩
  unfold waitOut waitIn
  simp only [Prog.lift, Prog.bind_op, Prog.bind_ret, Prog.pure_eq_ret]
  iapply (wp_await m K c (.gyds (ch6 n)) (dst := row rM (ch16 n)) rfl
    (U := Ufw 5 5) (A := Aset 16 16 (n + 5 + 1) (n + 5 + 1) n 0 0 0) (by simp [mem_A, Ahas, hk]) (.inr (by simp [mem_U, Uhas]; omega))
    (lev_zero rfl)) $$ [HG]
  · iexact HG
  iintro ⟨HG, Hr⟩
  iapply (wp_await m K c (.gydr (ch6 n)) (dst := oQ c (ch16 n)) rfl
    (U := Ufw 5 5) (A := (Aset 16 16 (n + 5 + 1) (n + 5 + 1) n 0 0 0).erase (.gyds (ch6 n))) (by simp [mem_A, Ahas, hk]) (.inl rfl)
    (lev_g (le_refl 18) le_rfl le_rfl le_rfl)) $$ [HG]
  · iexact HG
  rw [A_gy (by simp [hk])]
  simp only [pay]
  iintro ⟨HG, Hy⟩
  iapply (WP_ret c)
  rw [show n + 1 + 5 = n + 5 + 1 by omega]
  isplitl [HG]; · iexact HG
  isplitl [HBX]; · iexact HBX
  isplitl [HBZ]; · iexact HBZ
  isplitl [Hr HR]
  · isplitl [Hr]; · iexact Hr
    iexact HR
  isplitl [Hx HIX]
  · isplitl [Hx]; · iexact Hx
    iexact HIX
  isplitl [Hz HIZ]
  · isplitl [Hz]; · iexact Hz
    iexact HIZ
  isplitl [Hy]; · iexact Hy
  iexact HIY

theorem waitX_loop (c : Dev nD) :
    iprop(GS m K c 0 (Ufw 5 5) (Aset 16 16 11 11 6 0 0 0) ∗ backX m c 11 ∗ inX m c 11 11)
      ⊢ WP c (seqFrom (waitX c) 6 5) (fun _ =>
          iprop(GS m K c 0 (Ufw 5 5) (Aset 16 16 16 11 6 0 0 0) ∗ backX m c 16 ∗ inX m c 16 11)) := by
  refine WP_seq c (waitX c) (fun n => iprop(GS m K c 0 (Ufw 5 5) (Aset 16 16 (n + 5) 11 6 0 0 0) ∗ backX m c (n + 5) ∗ inX m c (n + 5) 11))
    5 6 fun n hl hn => ?_
  have hX : inX m c (n + 5 + 1) 11 = iprop(own c (oQ (nx c) (ch16 n)) fullShare (rv m (nx c) (ch16 n)) ∗ inX m c (n + 5) 11) := by
    unfold inX; exact fam_take (ch16 n) (by dsimp only; omega) (fun j hj => by dsimp only; omega) _
  rw [show n + 1 + 5 = n + 5 + 1 by omega, hX]
  iintro ⟨HG, HB, HI⟩
  ihave H := (waitX_step m K c n (by omega) (x := 5) (z := 5) (vx := n + 5) (vz := 11) (vy := 6) (wx := 0) (wz := 0) (wl := 0)
    (by unfold rkx; split_ifs <;> omega)) $$ [HG HB]
  · isplitl [HG]; · iexact HG
    iexact HB
  iapply (wp_wand _ _ _) $$ H
  iintro %_ ⟨HG, HB, Hx⟩
  isplitl [HG]; · iexact HG
  isplitl [HB]; · iexact HB
  isplitl [Hx]; · iexact Hx
  iexact HI

theorem waitZ_loop (c : Dev nD) :
    iprop(GS m K c 0 (Ufw 5 5) (Aset 16 16 16 11 6 0 0 0) ∗ backZ m c 11 ∗ inZ m c 11 6)
      ⊢ WP c (seqFrom (waitZ c) 11 5) (fun _ =>
          iprop(GS m K c 0 (Ufw 5 5) (Aset 16 16 16 16 6 0 0 0) ∗ backZ m c 16 ∗ inZ m c 16 6)) := by
  refine WP_seq c (waitZ c) (fun n => iprop(GS m K c 0 (Ufw 5 5) (Aset 16 16 16 n 6 0 0 0) ∗ backZ m c n ∗ inZ m c n 6))
    5 11 fun n hl hn => ?_
  have hZ : inZ m c (n + 1) 6 = iprop(own c (oQ (nz c) (ch16 n)) fullShare (rv m (nz c) (ch16 n)) ∗ inZ m c n 6) := by
    unfold inZ; exact fam_take (ch16 n) (by dsimp only; omega) (fun j hj => by dsimp only; omega) _
  rw [hZ]
  iintro ⟨HG, HB, HI⟩
  ihave H := (waitZ_step m K c n (by omega) (x := 5) (z := 5) (vx := 16) (vz := n) (vy := 6) (wx := 0) (wz := 0) (wl := 0)
    (by unfold rkz; split_ifs <;> omega)) $$ [HG HB]
  · isplitl [HG]; · iexact HG
    iexact HB
  iapply (wp_wand _ _ _) $$ H
  iintro %_ ⟨HG, HB, Hx⟩
  isplitl [HG]; · iexact HG
  isplitl [HB]; · iexact HB
  isplitl [Hx]; · iexact Hx
  iexact HI

theorem waitFX_loop (c : Dev nD) :
    iprop(GS m K c 0 (Ufw 5 5) (Aset 16 16 16 16 6 0 0 0) ∗ inZ m c 16 6 ∗ inFX m c 0)
      ⊢ WP c (seqFrom (waitFX c) 0 5) (fun _ =>
          iprop(GS m K c 0 (Ufw 5 5) (Aset 16 16 16 16 6 5 0 0) ∗ inZ m c 16 11 ∗ inFX m c 5)) := by
  refine WP_seq c (waitFX c) (fun n => iprop(GS m K c 0 (Ufw 5 5) (Aset 16 16 16 16 6 n 0 0) ∗ inZ m c 16 (6 + n) ∗ inFX m c n))
    5 0 fun n _ hn => ?_
  have hk : n % 5 = n := Nat.mod_eq_of_lt (by omega)
  have hZ : inZ m c 16 (6 + (n + 1)) = iprop(own c (oQ (nz c) (fxk (ch5 n))) fullShare (rv m (nz c) (fxk (ch5 n))) ∗ inZ m c 16 (6 + n)) := by
    unfold inZ; exact fam_take (fxk (ch5 n)) (by dsimp only; omega) (fun j hj => by dsimp only; omega) _
  have hF : inFX m c (n + 1) = iprop(own c (oX (nx c) (fxk (ch5 n))) fullShare (rv m (nz (nx c)) (fxk (ch5 n))) ∗ inFX m c n) := by
    unfold inFX; exact fam_take (ch5 n) (by dsimp only; omega) (fun j hj => by dsimp only; omega) _
  rw [hZ, hF, ← oX_eq]
  iintro ⟨HG, HI, HF⟩
  unfold waitFX
  simp only [Prog.lift, Prog.bind_op, Prog.bind_ret, Prog.pure_eq_ret]
  iapply (wp_await m K c (.fxs (ch5 n)) (dst := oX c (ch16 (n + 6))) rfl
    (U := Ufw 5 5) (A := Aset 16 16 16 16 6 n 0 0) (by simp [mem_A, Ahas, hk]) (.inr (by simp [mem_U, Uhas]; omega))
    (lev_zero rfl)) $$ [HG]
  · iexact HG
  iintro ⟨HG, Hs⟩
  iapply (wp_await m K c (.fxr (ch5 n)) (dst := oX c (ch16 (n + 6))) rfl
    (U := Ufw 5 5) (A := (Aset 16 16 16 16 6 n 0 0).erase (.fxs (ch5 n))) (by simp [mem_A, Ahas, hk]) (.inl rfl)
    (lev_all le_rfl le_rfl le_rfl le_rfl le_rfl)) $$ [HG]
  · iexact HG
  rw [A_fx (by simp [hk])]
  simp only [pay]
  iintro ⟨HG, Hr⟩
  iapply (WP_ret c)
  isplitl [HG]; · iexact HG
  isplitl [Hs HI]
  · isplitl [Hs]; · iexact Hs
    iexact HI
  isplitl [Hr]; · iexact Hr
  iexact HF

theorem waitFZ_loop (c : Dev nD) :
    iprop(GS m K c 0 (Ufw 5 5) (Aset 16 16 16 16 6 5 0 0) ∗ inX m c 16 11 ∗ inFZ m c 0)
      ⊢ WP c (seqFrom (waitFZ c) 0 5) (fun _ =>
          iprop(GS m K c 0 (Ufw 5 5) (Aset 16 16 16 16 6 5 5 0) ∗ inX m c 16 16 ∗ inFZ m c 5)) := by
  refine WP_seq c (waitFZ c) (fun n => iprop(GS m K c 0 (Ufw 5 5) (Aset 16 16 16 16 6 5 n 0) ∗ inX m c 16 (11 + n) ∗ inFZ m c n))
    5 0 fun n _ hn => ?_
  have hk : n % 5 = n := Nat.mod_eq_of_lt (by omega)
  have hX : inX m c 16 (11 + (n + 1)) = iprop(own c (oQ (nx c) (fzk (ch5 n))) fullShare (rv m (nx c) (fzk (ch5 n))) ∗ inX m c 16 (11 + n)) := by
    unfold inX; exact fam_take (fzk (ch5 n)) (by dsimp only; omega) (fun j hj => by dsimp only; omega) _
  have hF : inFZ m c (n + 1) = iprop(own c (oZ (nz c) (fzk (ch5 n))) fullShare (rv m (nx (nz c)) (fzk (ch5 n))) ∗ inFZ m c n) := by
    unfold inFZ; exact fam_take (ch5 n) (by dsimp only; omega) (fun j hj => by dsimp only; omega) _
  rw [hX, hF, ← oZ_eq]
  iintro ⟨HG, HI, HF⟩
  unfold waitFZ
  simp only [Prog.lift, Prog.bind_op, Prog.bind_ret, Prog.pure_eq_ret]
  iapply (wp_await m K c (.fzs (ch5 n)) (dst := oZ c (ch16 (n + 11))) rfl
    (U := Ufw 5 5) (A := Aset 16 16 16 16 6 5 n 0) (by simp [mem_A, Ahas, hk]) (.inr (by simp [mem_U, Uhas]; omega))
    (lev_zero rfl)) $$ [HG]
  · iexact HG
  iintro ⟨HG, Hs⟩
  iapply (wp_await m K c (.fzr (ch5 n)) (dst := oZ c (ch16 (n + 11))) rfl
    (U := Ufw 5 5) (A := (Aset 16 16 16 16 6 5 n 0).erase (.fzs (ch5 n))) (by simp [mem_A, Ahas, hk]) (.inl rfl)
    (lev_all le_rfl le_rfl le_rfl le_rfl le_rfl)) $$ [HG]
  · iexact HG
  rw [A_fz (by simp [hk])]
  simp only [pay]
  iintro ⟨HG, Hr⟩
  iapply (WP_ret c)
  isplitl [HG]; · iexact HG
  isplitl [Hs HI]
  · isplitl [Hs]; · iexact Hs
    iexact HI
  isplitl [Hr]; · iexact Hr
  iexact HF

/-! ## The own quarter -/

/-- A quarter's chunks together are the quarter. -/
theorem own_rows (c : Dev nD) (q : PosShare TreeShare) : redTo m c q 16 ⊢ own c rM q (rq m c) := by
  unfold redTo
  rw [fam_univ (fun j hj => hj)]
  refine .trans ?_ (owns_of_rects (c : Thread nD τ) rM q rowR (fun _ _ => rfl) row_disj row_cover (rq m c))
  exact bigSep_mono fun k _ => by rw [rq_row]; exact BI.Entails.refl _
/-- And the quarter is its chunks. -/
theorem rows_own (c : Dev nD) (q : PosShare TreeShare) : own c rM q (rq m c) ⊢ redTo m c q 16 := by
  unfold redTo
  rw [fam_univ (fun j hj => hj)]
  refine (owns_rects (c : Thread nD τ) rM q rowR (fun _ _ => rfl) row_disj row_cover (rq m c)).trans ?_
  exact bigSep_mono fun k _ => by rw [rq_row]; exact BI.Entails.refl _

theorem startLoc_step (c : Dev nD) :
    iprop(GS m K c 0 (Uset 16 16 16 16 6 0 0 0) (Aset 16 16 0 0 0 0 0 0) ∗ redTo m c shL 16 ∗ anyOf c (oOwn c))
      ⊢ WP c (startLoc c) (fun _ => GS m K c 0 (Ufw 0 0) (Aset 16 16 0 0 0 0 0 0)) := by
  iintro ⟨HG, Hr, Ho⟩
  ihave Hr := (own_rows m c shL) $$ Hr
  unfold startLoc
  simp only [Prog.lift]
  iapply (wp_local m K c .loc rfl (src := rM) (dst := oOwn c) (amt_oOwn c)
    (U := Uset 16 16 16 16 6 0 0 0) (A := Aset 16 16 0 0 0 0 0 0) .rfl (by simp [mem_U, Uhas]) (by simp [mem_A, Ahas])) $$ [HG Hr Ho]
  · isplitl [HG]; · iexact HG
    isplitl [Hr]; · iexact Hr
    iexact Ho
  rw [U_loc]
  iintro HG
  iapply (WP_ret c)
  iexact HG

theorem waitLoc_step (c : Dev nD) :
    GS m K c 0 (Ufw 5 5) (Aset 16 16 16 16 6 5 5 0)
      ⊢ WP c (waitLoc c) (fun _ => iprop(GS m K c 0 (Ufw 5 5) (Aset 16 16 16 16 6 5 5 1) ∗ own c (oOwn c) fullShare (rq m c) ∗ own c rM shL (rq m c))) := by
  iintro HG
  unfold waitLoc
  simp only [Prog.lift]
  iapply (wp_await m K c .loc (dst := oOwn c) (amt_oOwn c)
    (U := Ufw 5 5) (A := Aset 16 16 16 16 6 5 5 0) (by simp [mem_A, Ahas]) (.inr (by simp [mem_U, Uhas])) (lev_zero rfl)) $$ [HG]
  · iexact HG
  rw [A_loc]
  simp only [pay]
  iintro H
  iapply (WP_ret c)
  iexact H

end Cert.AllReduce
-- ==== Proof.Body.lean ====
/-
  The whole kernel on one device, from its steps.
-/
module

public import proofs.«01_k».proof.Proof.Recv

@[expose] public section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Option Ch → ℕ)

/-! ## The barrier -/

/-- What the signal to a neighbour raises. -/
noncomputable abbrev barDue (n : Dev nD) : CellTallies nD τ sig Unit := tallyAt (barCell n) () 1

/-- What a device's three signals raise. -/
noncomputable def bars (c : Dev nD) : CellTallies nD τ sig Unit := barDue (nz c) + barDue (nx c) + barDue (ny c)

/-- What a device needs for the barrier: to signal each neighbour, and to be signalled three times. -/
noncomputable def barG (c : Dev nD) : sProp 𝕄 :=
  iprop((dutyTok ER (barCell (ny c)) 0 (0 : Fin 3) ∗ dutyTok ER (barCell (nx c)) 0 (1 : Fin 3) ∗ dutyTok ER (barCell (nz c)) 0 (2 : Fin 3))
    ∗ atPos ER (barCell c) 0 ∅ 0 ∗ cred (tallyAt (barCell c) () 3))

/-- What a device hands to its neighbours: where their transfers land. -/
noncomputable def barOut (c : Dev nD) : sProp 𝕄 := iprop(barPay (ny c) 0 ∗ barPay (nx c) 1 ∗ barPay (nz c) 2)
/-- What it gets from them. -/
noncomputable def barIn (c : Dev nD) : sProp 𝕄 := iprop(barPay c 0 ∗ barPay c 1 ∗ barPay c 2)

theorem dev1_eq (c : Dev nD) : (⟨k0_dev1 c, k0_dev1_lt c⟩ : Dev nD) = ny c := by revert c; decide +kernel
theorem dev2_eq (c : Dev nD) : (⟨k0_dev2 c, k0_dev2_lt c⟩ : Dev nD) = nx c := by revert c; decide +kernel
theorem dev3_eq (c : Dev nD) : (⟨k0_dev3 c, k0_dev3_lt c⟩ : Dev nD) = nz c := by revert c; decide +kernel

theorem lev_bar {h : Ch} (hr : h.recv = true) : 1 < h.lev := by cases h <;> simp_all [Ch.recv, Ch.lev] <;> omega

theorem barrier_step (c : Dev nD) (U A : Finset Ch) :
    iprop(GS m K c (bars c) U A ∗ barG c ∗ barOut c)
      ⊢ WP c (barrier c) (fun _ => iprop(GS m K c 0 U A ∗ semVal (barCell c) 0 ∗ barIn c)) := by
  unfold barrier
  simp only [semSignalWord, semWaitWord, Prog.lift, Prog.bind_op, Prog.bind_ret, Prog.pure_eq_ret, dev1_eq, dev2_eq, dev3_eq]
  unfold GS barG barOut barIn bars
  rw [← add_assoc, ← add_assoc]
  iintro ⟨⟨#He, ⟨%Wt, Ho⟩, HT, HA, HC, HZ⟩, ⟨⟨Hty, Htx, Htz⟩, Hat, Hc⟩, ⟨Hpy, Hpx, Hpz⟩⟩
  iapply (Rounds.wp_signal 𝒱₀ ER (Rd m) (c : Thread nD τ) none (dst := (ny c : Thread nD τ)) (κ := K (ny c, none)) (d := (0 : Fin 3))
    (by rw [duties_bar]; exact Finset.mem_univ _) ((amount_bar m (ny c) 0).trans (by decide)) () (owed c U + barDue (nz c) + barDue (nx c)) rfl)
    $$ [Ho Hty Hpy]
  · isplitr; · iapply (env_inv m K (ny c, none)); iexact He
    isplitl [Ho]; · iexact Ho
    isplitl [Hty]; · iexact Hty
    isplitl [Hpy]; · iapply (Entails.of_eq (payload_bar m (ny c) 0).symm); iexact Hpy
    iapply (env_reached m K (ny c, none)); iexact He
  iintro Ho
  iapply (Rounds.wp_signal 𝒱₀ ER (Rd m) (c : Thread nD τ) none (dst := (nx c : Thread nD τ)) (κ := K (nx c, none)) (d := (1 : Fin 3))
    (by rw [duties_bar]; exact Finset.mem_univ _) ((amount_bar m (nx c) 1).trans (by decide)) () (owed c U + barDue (nz c)) rfl)
    $$ [Ho Htx Hpx]
  · isplitr; · iapply (env_inv m K (nx c, none)); iexact He
    isplitl [Ho]; · iexact Ho
    isplitl [Htx]; · iexact Htx
    isplitl [Hpx]; · iapply (Entails.of_eq (payload_bar m (nx c) 1).symm); iexact Hpx
    iapply (env_reached m K (nx c, none)); iexact He
  iintro Ho
  iapply (Rounds.wp_signal 𝒱₀ ER (Rd m) (c : Thread nD τ) none (dst := (nz c : Thread nD τ)) (κ := K (nz c, none)) (d := (2 : Fin 3))
    (by rw [duties_bar]; exact Finset.mem_univ _) ((amount_bar m (nz c) 2).trans (by decide)) () (owed c U) rfl)
    $$ [Ho Htz Hpz]
  · isplitr; · iapply (env_inv m K (nz c, none)); iexact He
    isplitl [Ho]; · iexact Ho
    isplitl [Htz]; · iexact Htz
    isplitl [Hpz]; · iapply (Entails.of_eq (payload_bar m (nz c) 2).symm); iexact Hpz
    iapply (env_reached m K (nz c, none)); iexact He
  iintro Ho
  iapply (Rounds.wp_wait_rest_token 𝒱₀ ER (Rd m) (c : Thread nD τ) none (κ := K (c, none))
      (wpE_semWait_eq 𝒱₀ (c : Thread nD τ) none Set.univ) (Set.mem_univ _) () (O := owed c U) (W := Wt) (R := 0) (m := 0) (T := ∅)
      (by rw [Nat.zero_add, expect_bar]; decide)) $$ [Hc Ho Hat]
  · isplitr; · iapply (env_inv m K (c, none)); iexact He
    isplitl [Hc]; · iexact Hc
    isplitl [Ho]; · iexact Ho
    isplitr
    · iapply (mayWait m K c (.reg barS) U (fun h' _ hr' => lev_bar hr')); iexact He
    iexact Hat
  iintro ⟨Ho, Hat, -, Hpay⟩
  imod (Rounds.cell_close ER (Rd m) (Set.mem_univ (K (c, none))) (fun h => h) (R := 0 + 1) (duties_later m (barCell c))) $$ [Hat] with Hz
  · isplitr; · iapply (env_inv m K (c, none)); iexact He
    iexact Hat
  iapply (WP_ret c)
  isplitr [Hz Hpay]
  · isplitr; · iexact He
    isplitl [Ho]; · iexists _; rw [add_zero]; iexact Ho
    isplitl [HT]; · iexact HT
    isplitl [HA]; · iexact HA
    isplitl [HC]; · iexact HC
    iexact HZ
  isplitl [Hz]; · iexact Hz
  iapply (Entails.of_eq (rest_bar m c)); iexact Hpay

/-! ## The loops that send and add -/

theorem send_loop (c : Dev nD) :
    iprop(GS m K c 0 (Uset 2 2 0 0 0 0 0 0) (Aset 0 0 0 0 0 0 0 0) ∗ sendI m c 0)
      ⊢ WP c (seqFrom (sendChunk c) 0 4) (fun _ =>
          iprop(GS m K c 0 (Uset 6 2 4 0 0 0 0 0) (Aset 4 0 0 0 0 0 0 0) ∗ sendI m c 4)) :=
  WP_seq c (sendChunk c) (fun n => iprop(GS m K c 0 (Uset (ahead n) 2 n 0 0 0 0 0) (Aset n 0 0 0 0 0 0 0) ∗ sendI m c n)) 4 0
    fun n _ hn => sendChunk_step m K c n (by omega) (Nat.zero_le _)

theorem sendAdd_step (c : Dev nD) (n : ℕ) (hn : n < 12) :
    iprop(GS m K c 0 (Uset (ahead (n + 4)) (ahead n) (n + 4) n 0 0 0 0) (Aset (n + 4) n 0 0 0 0 0 0) ∗ sendI m c (n + 4) ∗ addI m c 0 n)
      ⊢ WP c (do sendChunk c (n + 4); addChunk c n) (fun _ =>
          iprop(GS m K c 0 (Uset (ahead (n + 1 + 4)) (ahead (n + 1)) (n + 1 + 4) (n + 1) 0 0 0 0) (Aset (n + 1 + 4) (n + 1) 0 0 0 0 0 0)
            ∗ sendI m c (n + 1 + 4) ∗ addI m c 0 (n + 1))) := by
  iintro ⟨HG, HS, HA⟩
  iapply (WP_step c (sendChunk_step m K c (n + 4) (by omega) (b := ahead n) (g := n) (j := n) (by omega))) $$ [HG HS]
  · isplitl [HG]; · iexact HG
    iexact HS
  iintro ⟨HG, HS⟩
  iapply (wp_wand _ _ _) $$ [HG HA]
  · iapply (addChunk_step m K c n (by omega) (a := ahead (n + 4 + 1)) (s := n + 4 + 1) (y := 0) (i := n + 4 + 1) (by omega) (Nat.zero_le _))
    isplitl [HG]; · iexact HG
    iexact HA
  iintro %_a ⟨HG, HA⟩
  rw [show n + 1 + 4 = n + 4 + 1 by omega]
  isplitl [HG]; · iexact HG
  isplitl [HS]; · iexact HS
  iexact HA

theorem sendAdd_loop (c : Dev nD) :
    iprop(GS m K c 0 (Uset 6 2 4 0 0 0 0 0) (Aset 4 0 0 0 0 0 0 0) ∗ sendI m c 4 ∗ addI m c 0 0)
      ⊢ WP c (seqFrom (fun n => do sendChunk c (n + 4); addChunk c n) 0 12) (fun _ =>
          iprop(GS m K c 0 (Uset 16 14 16 12 0 0 0 0) (Aset 16 12 0 0 0 0 0 0) ∗ sendI m c 16 ∗ addI m c 0 12)) := by
  have key {a b s a' b' s' t : ℕ} (ha : ahead (0 + 4) = a) (hb : ahead 0 = b) (hs : 0 + 4 = s) (ha' : ahead (0 + 12 + 4) = a')
      (hb' : ahead (0 + 12) = b') (hs' : 0 + 12 + 4 = s') (ht : 0 + 12 = t) :
      iprop(GS m K c 0 (Uset a b s 0 0 0 0 0) (Aset s 0 0 0 0 0 0 0) ∗ sendI m c s ∗ addI m c 0 0)
        ⊢ WP c (seqFrom (fun n => do sendChunk c (n + 4); addChunk c n) 0 12) (fun _ =>
            iprop(GS m K c 0 (Uset a' b' s' t 0 0 0 0) (Aset s' t 0 0 0 0 0 0) ∗ sendI m c s' ∗ addI m c 0 t)) := by
    subst ha hb hs ha' hb' hs' ht
    exact WP_seq c (fun n => do sendChunk c (n + 4); addChunk c n)
      (fun n => iprop(GS m K c 0 (Uset (ahead (n + 4)) (ahead n) (n + 4) n 0 0 0 0) (Aset (n + 4) n 0 0 0 0 0 0) ∗ sendI m c (n + 4) ∗ addI m c 0 n))
      12 0 fun n _ hn => sendAdd_step m K c n (by omega)
  exact key rfl rfl rfl rfl rfl rfl rfl

theorem add_loop (c : Dev nD) :
    iprop(GS m K c 0 (Uset 16 14 16 12 6 0 0 0) (Aset 16 12 0 0 0 0 0 0) ∗ addI m c 6 12)
      ⊢ WP c (seqFrom (addChunk c) 12 4) (fun _ =>
          iprop(GS m K c 0 (Uset 16 16 16 16 6 0 0 0) (Aset 16 16 0 0 0 0 0 0) ∗ addI m c 6 16)) :=
  WP_seq c (addChunk c) (fun n => iprop(GS m K c 0 (Uset 16 (ahead n) 16 n 6 0 0 0) (Aset 16 n 0 0 0 0 0 0) ∗ addI m c 6 n)) 4 12
    fun n hl hn => addChunk_step m K c n (by omega) (by omega) (by omega)

/-! ## The whole body -/

/-- The memory a device starts with, besides what it hands out at the barrier. -/
noncomputable def memPre (c : Dev nD) : sProp 𝕄 :=
  iprop(homeS m c 0 0 ∗ homeQ m c 0 0 ∗ slots c aM 0 0 ∗ slots c bM 0 0 ∗ rowsFrom c sM 0 ∗ rowsFrom c rM 0 ∗ anyOf c (oOwn c))

/-- The memory a device ends with. -/
noncomputable def memPost (c : Dev nD) : sProp 𝕄 :=
  iprop((homeS m c 16 16 ∗ homeQ m c 16 16) ∗ (slots c aM 16 16 ∗ slots c bM 16 16 ∗ rowsTo c sM 16 ∗ rowsTo c pM 16 ∗ own c rM fullShare (rq m c))
    ∗ (own c (oOwn c) fullShare (rq m c) ∗ inX m c 16 16 ∗ inZ m c 16 11 ∗ inY m c 6 ∗ inFX m c 5 ∗ inFZ m c 5))

/-! Families with every member, and families with none. -/

theorem rowsFrom_all (c : Dev nD) (b : Memref sig .tc .vmem S8192x1024 .bf16) :
    (bigSep Finset.univ fun k : Fin 16 => anyOf (F := F) c (row b k)) ⊢ rowsFrom c b 0 :=
  Entails.of_eq (fam_univ (fun j _ => Nat.zero_le j) _).symm
theorem outFrom_all (c c' : Dev nD) : (bigSep Finset.univ fun k : Fin 16 => anyOf (F := F) c' (oQ c k)) ⊢ outFrom c c' 0 :=
  Entails.of_eq (fam_univ (fun j _ => Nat.zero_le j) _).symm
theorem outY_all (c : Dev nD) : (bigSep Finset.univ fun k : Fin 6 => anyOf (F := F) (ny c) (oQ c (yk k))) ⊢ outY c 0 :=
  Entails.of_eq (fam_univ (fun j _ => Nat.zero_le j) _).symm
theorem outFX_all (c : Dev nD) : (bigSep Finset.univ fun i : Fin 5 => anyOf (F := F) (nx c) (oX c (fxk i))) ⊢ outFX c 0 :=
  Entails.of_eq (fam_univ (fun j _ => Nat.zero_le j) _).symm
theorem outFZ_all (c : Dev nD) : (bigSep Finset.univ fun i : Fin 5 => anyOf (F := F) (nz c) (oZ c (fzk i))) ⊢ outFZ c 0 :=
  Entails.of_eq (fam_univ (fun j _ => Nat.zero_le j) _).symm

theorem fam_empty {R : Type} [URA R] {n : ℕ} {p : ℕ → Prop} [DecidablePred p] (h : ∀ j, j < n → ¬ p j) (Φ : Fin n → sProp R) :
    iprop(emp) ⊢ fam p Φ := Entails.of_eq (fam_none h Φ).symm

theorem rowsTo_none (c : Dev nD) (b : Memref sig .tc .vmem S8192x1024 .bf16) : iprop(emp) ⊢ rowsTo (F := F) c b 0 := by unfold rowsTo; exact fam_empty (fun j _ => by omega) _
theorem redY_none (c : Dev nD) : iprop(emp) ⊢ redY m c 0 0 0 := by unfold redY; exact fam_empty (fun j _ => by omega) _
theorem redTo_none (c : Dev nD) (q : PosShare TreeShare) : iprop(emp) ⊢ redTo m c q 0 := by unfold redTo; exact fam_empty (fun j _ => by omega) _
theorem backX_none (c : Dev nD) : iprop(emp) ⊢ backX m c 0 := by unfold backX; exact fam_empty (fun j _ => by omega) _
theorem backZ_none (c : Dev nD) : iprop(emp) ⊢ backZ m c 0 := by unfold backZ; exact fam_empty (fun j _ => by omega) _
theorem inX_none (c : Dev nD) : iprop(emp) ⊢ inX m c 5 11 := by unfold inX; exact fam_empty (fun j _ => by omega) _
theorem inZ_none (c : Dev nD) : iprop(emp) ⊢ inZ m c 5 6 := by unfold inZ; exact fam_empty (fun j _ => by omega) _
theorem inY_none (c : Dev nD) : iprop(emp) ⊢ inY m c 0 := by unfold inY; exact fam_empty (fun j _ => by omega) _
theorem inFX_none (c : Dev nD) : iprop(emp) ⊢ inFX m c 0 := by unfold inFX; exact fam_empty (fun j _ => by omega) _
theorem inFZ_none (c : Dev nD) : iprop(emp) ⊢ inFZ m c 0 := by unfold inFZ; exact fam_empty (fun j _ => by omega) _

/-- The four shares of the reduced quarter, back together. -/
theorem red_back (c : Dev nD) : iprop(backX m c 16 ∗ backZ m c 16 ∗ redY m c 6 6 16 ∗ own c rM shL (rq m c)) ⊢ own c rM fullShare (rq m c) := by
  have hx : backX m c 16 ⊢ own c rM shX (rq m c) := by
    refine .trans ?_ (own_rows m c shX)
    exact Entails.of_eq (fam_congr (fun j hj => by dsimp only [rkx]; split <;> omega) _)
  have hz : backZ m c 16 ⊢ own c rM shZ (rq m c) := by
    refine .trans ?_ (own_rows m c shZ)
    exact Entails.of_eq (fam_congr (fun j hj => by dsimp only [rkz]; split_ifs <;> omega) _)
  have hy : redY m c 6 6 16 ⊢ own c rM shY (rq m c) := by
    refine .trans ?_ (own_rows m c shY)
    exact Entails.of_eq (fam_congr (fun j hj => by omega) _)
  iintro ⟨HX, HZ, HY, HL⟩
  iapply (own_quarters c rM (rq m c)).2
  isplitl [HX HZ]
  · isplitl [HX]; · iapply hx; iexact HX
    iapply hz; iexact HZ
  isplitl [HY]; · iapply hy; iexact HY
  iexact HL

/-- The kernel on device `c`: from its bookkeeping and its memory, all channels are used and waited for, and the memory holds the result. -/
theorem prog_spec (c : Dev nD) :
    iprop(GS m K c (bars c) (Uset 0 0 0 0 0 0 0 0) (Aset 0 0 0 0 0 0 0 0) ∗ barG c ∗ barOut c ∗ memPre m c)
      ⊢ WP c (prog c) (fun _ => iprop(GS m K c 0 (Ufw 5 5) (Aset 16 16 16 16 6 5 5 1) ∗ semVal (barCell c) 0 ∗ memPost m c)) := by
  unfold prog memPre memPost
  iintro ⟨HG, HB, HO, ⟨Hx, Hq, Ha, Hb, Hs, Hr, Ho⟩⟩
  iapply (WP_step c (startS_loop m K c (bars c))) $$ [HG Hx Ha]
  · isplitl [HG]; · iexact HG
    isplitl [Hx]; · iexact Hx
    iexact Ha
  iintro ⟨HG, Hx, Ha⟩
  iapply (WP_step c (startQ_loop m K c (bars c))) $$ [HG Hq Hb]
  · isplitl [HG]; · iexact HG
    isplitl [Hq]; · iexact Hq
    iexact Hb
  iintro ⟨HG, Hq, Hb⟩
  iapply (WP_step c (barrier_step m K c _ _)) $$ [HG HB HO]
  · isplitl [HG]; · iexact HG
    isplitl [HB]; · iexact HB
    iexact HO
  unfold barIn
  simp only [barPay]
  iintro ⟨HG, Hz, ⟨Hp, Hoy⟩, ⟨Hox, Hfx⟩, ⟨Hoz, Hfz⟩⟩
  iapply (WP_step c (send_loop m K c)) $$ [HG Hx Ha Hs Hp]
  · unfold sendI
    isplitl [HG]; · iexact HG
    isplitl [Hx]; · iexact Hx
    isplitl [Ha]; · iexact Ha
    isplitl [Hs]; · iexact Hs
    iapply (rowsFrom_all (ny c) pM); iexact Hp
  iintro ⟨HG, HS⟩
  iapply (WP_step c (sendAdd_loop m K c)) $$ [HG HS Hq Hb Hr Hox Hoz]
  · isplitl [HG]; · iexact HG
    isplitl [HS]; · iexact HS
    unfold addI
    isplitl [Hq]; · iexact Hq
    isplitl [Hb]; · iexact Hb
    isplitr; · iapply (rowsTo_none c sM); iempintro
    isplitr; · iapply (rowsTo_none c pM); iempintro
    isplitl [Hr]; · iexact Hr
    isplitl [Hox]; · iapply (outFrom_all c (nx c)); iexact Hox
    isplitl [Hoz]; · iapply (outFrom_all c (nz c)); iexact Hoz
    isplitr; · iapply (redY_none m c); iempintro
    iapply (redTo_none m c shL); iempintro
  unfold addI sendI
  iintro ⟨HG, ⟨Hx, Ha, -, -⟩, ⟨Hq, Hb, Hs, Hp, Hr, Hox, Hoz, Hy, Hl⟩⟩
  iapply (WP_step c (sendY_loop m K c)) $$ [HG Hy Hoy]
  · isplitl [HG]; · iexact HG
    isplitl [Hy]; · iexact Hy
    iapply (outY_all c); iexact Hoy
  iintro ⟨HG, Hy, -⟩
  iapply (WP_step c (add_loop m K c)) $$ [HG Hq Hb Hs Hp Hr Hox Hoz Hy Hl]
  · unfold addI
    isplitl [HG]; · iexact HG
    isplitl [Hq]; · iexact Hq
    isplitl [Hb]; · iexact Hb
    isplitl [Hs]; · iexact Hs
    isplitl [Hp]; · iexact Hp
    isplitl [Hr]; · iexact Hr
    isplitl [Hox]; · iexact Hox
    isplitl [Hoz]; · iexact Hoz
    isplitl [Hy]; · iexact Hy
    iexact Hl
  unfold addI
  iintro ⟨HG, Hq, Hb, Hs, Hp, -, -, -, Hy, Hl⟩
  iapply (WP_step c (startLoc_step m K c)) $$ [HG Hl Ho]
  · isplitl [HG]; · iexact HG
    isplitl [Hl]; · iexact Hl
    iexact Ho
  iintro HG
  iapply (WP_step c (fwdX_loop m K c)) $$ [HG Hfx]
  · isplitl [HG]; · iexact HG
    isplitr; · iapply (backZ_none m c); iempintro
    iapply (outFX_all c); iexact Hfx
  iintro ⟨HG, HbZ, -⟩
  iapply (WP_step c (fwdZ_loop m K c)) $$ [HG Hfz]
  · isplitl [HG]; · iexact HG
    isplitr; · iapply (backX_none m c); iempintro
    iapply (outFZ_all c); iexact Hfz
  iintro ⟨HG, HbX, -⟩
  iapply (WP_step c (waitXZY_loop m K c)) $$ [HG HbX HbZ Hy]
  · isplitl [HG]; · iexact HG
    isplitl [HbX]; · iexact HbX
    isplitl [HbZ]; · iexact HbZ
    isplitl [Hy]; · iexact Hy
    isplitr; · iapply (inX_none m c); iempintro
    isplitr; · iapply (inZ_none m c); iempintro
    iapply (inY_none m c); iempintro
  iintro ⟨HG, HbX, HbZ, Hy, HiX, HiZ, HiY⟩
  iapply (WP_step c (waitX_loop m K c)) $$ [HG HbX HiX]
  · isplitl [HG]; · iexact HG
    isplitl [HbX]; · iexact HbX
    iexact HiX
  iintro ⟨HG, HbX, HiX⟩
  iapply (WP_step c (waitZ_loop m K c)) $$ [HG HbZ HiZ]
  · isplitl [HG]; · iexact HG
    isplitl [HbZ]; · iexact HbZ
    iexact HiZ
  iintro ⟨HG, HbZ, HiZ⟩
  iapply (WP_step c (waitFX_loop m K c)) $$ [HG HiZ]
  · isplitl [HG]; · iexact HG
    isplitl [HiZ]; · iexact HiZ
    iapply (inFX_none m c); iempintro
  iintro ⟨HG, HiZ, HfX⟩
  iapply (WP_step c (waitFZ_loop m K c)) $$ [HG HiX]
  · isplitl [HG]; · iexact HG
    isplitl [HiX]; · iexact HiX
    iapply (inFZ_none m c); iempintro
  iintro ⟨HG, HiX, HfZ⟩
  iapply (wp_wand _ _ _) $$ [HG]
  · iapply (waitLoc_step m K c); iexact HG
  iintro %_a ⟨HG, Ho, Hl⟩
  isplitl [HG]; · iexact HG
  isplitl [Hz]; · iexact Hz
  isplitl [Hx Hq]
  · isplitl [Hx]; · iexact Hx
    iexact Hq
  isplitl [Ha Hb Hs Hp HbX HbZ Hy Hl]
  · isplitl [Ha]; · iexact Ha
    isplitl [Hb]; · iexact Hb
    isplitl [Hs]; · iexact Hs
    isplitl [Hp]; · iexact Hp
    iapply (red_back m c)
    isplitl [HbX]; · iexact HbX
    isplitl [HbZ]; · iexact HbZ
    isplitl [Hy]; · iexact Hy
    iexact Hl
  isplitl [Ho]; · iexact Ho
  isplitl [HiX]; · iexact HiX
  isplitl [HiZ]; · iexact HiZ
  isplitl [HiY]; · iexact HiY
  isplitl [HfX]; · iexact HfX
  iexact HfZ

end Cert.AllReduce
-- ==== Proof.Deal.lean ====
/-
  The launch's resources dealt to the devices: the cells with their invariants, each duty's token to the device that pays
  it, and the credit each device's waits consume.
-/
module

public import proofs.«01_k».proof.Proof.Body
public import proofs.«01_k».proof.Proof.Gen.KernelIdeal.Launch
public import Idealize.ShloMosaic.Lib.Pipeline.Launch
public import Idealize.ShloMosaic.Lib.Pipeline.Kit

@[expose] public section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A separating conjunction over the cells of a device: its barrier's and its channels'. -/
theorem sep_option (Φ : Option Ch → sProp 𝕄) :
    bigSep Finset.univ Φ = iprop(Φ none ∗ bigSep Finset.univ fun h : Ch => Φ (some h)) := by
  rw [bigSep_univ_equiv ((Equiv.sumComm Unit Ch).trans (Equiv.optionEquivSumPUnit Ch).symm) Φ, bigSep_univ_sum]
  congr 1
  exact (bigSep_univ_eq_bigSepL [()] (by decide) (by decide) _)

/-- A separating conjunction over three duties. -/
theorem sep_three (Φ : Fin 3 → sProp 𝕄) : bigSep Finset.univ Φ = iprop(Φ 0 ∗ Φ 1 ∗ Φ 2) :=
  bigSep_univ_eq_bigSepL [0, 1, 2] (by decide) (by decide) Φ

/-- A persistent resource given to every member. -/
theorem sep_share {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

variable (m : (ℓ : Loc nD τ sig) → Buf (Elt F) ℓ)

/-! ## Semaphores, cells, tokens -/

/-- The kernel's own semaphores: the channels', by number. -/
def osem : Fin 161 → SemLoc sig := fun s => .dma s

/-- All cells of all devices. -/
def allCells : Finset (GSem nD τ sig) := Finset.univ.map ⟨kcell, kcell_inj⟩

/-- The duties of a device's cells: three on its barrier, one on each channel. -/
def tokOf (p : Dev nD × (Fin 3 ⊕ Ch)) : GSem nD τ sig × ℕ × Fin 3 :=
  match p.2 with
  | .inl d => (barCell p.1, 0, d)
  | .inr h => (cell p.1 h, 0, 0)

theorem tokOf_inj : Function.Injective tokOf := by
  rintro ⟨c, d | h⟩ ⟨c', d' | h'⟩ e
  · have h1 := kcell_inj (a₁ := (c, none)) (a₂ := (c', none)) (congrArg Prod.fst e)
    have h2 : d = d' := congrArg (fun x : GSem nD τ sig × ℕ × Fin 3 => x.2.2) e
    cases h1; cases h2; rfl
  · have h1 := kcell_inj (a₁ := (c, none)) (a₂ := (c', some h')) (congrArg Prod.fst e)
    cases h1
  · have h1 := kcell_inj (a₁ := (c, some h)) (a₂ := (c', none)) (congrArg Prod.fst e)
    cases h1
  · have h1 := kcell_inj (a₁ := (c, some h)) (a₂ := (c', some h')) (congrArg Prod.fst e)
    cases h1; rfl

/-- All duties. -/
def allToks : Finset (GSem nD τ sig × ℕ × Fin 3) := Finset.univ.map ⟨tokOf, tokOf_inj⟩

/-- The ghost state the launch starts from. -/
noncomputable def u₀ : UU :=
  (initOf (Pipeline.cells cfgs cellOf_inj) (Pipeline.launchToks cfgs cellOf_inj), initOf allCells allToks)

/-- The tokens of the duties on device `c`'s own cells. -/
noncomputable def toks (c : Dev nD) : sProp 𝕄 :=
  iprop((bigSep Finset.univ fun d : Fin 3 => dutyTok ER (barCell c) 0 d)
    ∗ bigSep Finset.univ fun h : Ch => dutyTok ER (cell c h) 0 (0 : Fin 3))

/-- What the launch gives device `c` of its own cells. -/
noncomputable def G (c : Dev nD) : sProp 𝕄 :=
  iprop((bigSep Finset.univ fun k : Option Ch => roundState ER (Rd m) (kcell (c, k)) 0)
    ∗ (bigSep Finset.univ fun k : Option Ch => iprop(atPos ER (kcell (c, k)) 0 ∅ 0 ∗ reached ER (kcell (c, k)) 0))
    ∗ toks c)

/-- The starting ghost state is every device's share of it. -/
theorem fund : BI.own (ER (initOf allCells allToks)) ⊢ (|==> bigSep Finset.univ (G m) : sProp 𝕄) := by
  have hX (Φ : GSem nD τ sig → sProp 𝕄) :
      bigSep allCells Φ = bigSep Finset.univ fun c : Dev nD => bigSep Finset.univ fun k : Option Ch => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The kernel's own semaphores are the channels'. -/
theorem ownSems0_eq (c : Dev nD) :
    (Pipeline.ownSems0 (Ix := Unit) (Name := ℕ) (U := UU) (Lvl := ℕ) (Val := Elt F) (τ := τ) osem c : sProp 𝕄)
      = bigSep Finset.univ fun h : Ch => semVal (cell c h) 0 := by
  unfold Pipeline.ownSems0
  rw [bigSep_univ_equiv chEquiv fun h : Ch => (semVal (cell c h) 0 : sProp 𝕄)]
  exact bigSep_congr fun s _ => by rw [show chEquiv s = Ch.of s from rfl, cell, Ch.sem_of]; rfl

/-- The launch's only other semaphore is the barrier's. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Option Ch => semVal (kcell (c, k)) 0 : sProp 𝕄) := by
  rw [ownSems0_eq, unscopedSems0_eq, sep_option]
  iintro ⟨H1, H2⟩
  isplitl [H2]; · iexact H2
  iexact H1

/-- The invariants of a device's cells, made from their counters at zero. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Option Ch => semVal (kcell (c, k)) 0)
        ∗ bigSep Finset.univ fun k : Option Ch => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## Each token to the device that pays its duty -/

/-- What every device knows of the cells. -/
noncomputable def records (K : Dev nD × Option Ch → ℕ) : sProp 𝕄 :=
  iprop((bigSep Finset.univ fun p : Dev nD × Option Ch => cellInv ER (Rd m) (K p) (kcell p))
    ∗ bigSep Finset.univ fun p : Dev nD × Option Ch => reached ER (kcell p) 0)

instance records_persistent (K : Dev nD × Option Ch → ℕ) : BI.Persistent (records (F := F) m K) := by unfold records; infer_instance

/-- The tokens of the duties device `c` pays. -/
noncomputable def payToks (c : Dev nD) : sProp 𝕄 :=
  iprop((dutyTok ER (barCell (ny c)) 0 (0 : Fin 3) ∗ dutyTok ER (barCell (nx c)) 0 (1 : Fin 3) ∗ dutyTok ER (barCell (nz c)) 0 (2 : Fin 3))
    ∗ bigSep Finset.univ fun h : Ch => dutyTok ER (cell (tgt c h) h) 0 (0 : Fin 3))

/-- A channel's target's target is the device itself. -/
theorem tgt_tgt (c : Dev nD) (h : Ch) : tgt (tgt c h) h = c := by
  cases h <;> simp [tgt, ny_ny, nx_nx, nz_nz]

/-- The three neighbours as permutations of the devices. -/
def permY : Dev nD ≃ Dev nD := ⟨ny, ny, ny_ny, ny_ny⟩
def permX : Dev nD ≃ Dev nD := ⟨nx, nx, nx_nx, nx_nx⟩
def permZ : Dev nD ≃ Dev nD := ⟨nz, nz, nz_nz, nz_nz⟩
/-- A device and a channel paired with the device at the channel's other end. -/
def permC : Dev nD × Ch ≃ Dev nD × Ch :=
  ⟨fun p => (tgt p.1 p.2, p.2), fun p => (tgt p.1 p.2, p.2), fun p => by simp [tgt_tgt], fun p => by simp [tgt_tgt]⟩

/-- The tokens of all cells' duties are the tokens of all devices' payments. -/
theorem toks_deal : (bigSep Finset.univ fun c : Dev nD => (toks c : sProp 𝕄)) ⊢ bigSep Finset.univ fun c : Dev nD => payToks c := by
  unfold toks payToks
  simp only [sep_three]
  rw [bigSep_sep', bigSep_sep', bigSep_sep', bigSep_sep', bigSep_sep', bigSep_sep',
    ← bigSep_univ_prod (fun p : Dev nD × Ch => (dutyTok ER (cell p.1 p.2) 0 (0 : Fin 3) : sProp 𝕄)),
    ← bigSep_univ_prod (fun p : Dev nD × Ch => (dutyTok ER (cell (tgt p.1 p.2) p.2) 0 (0 : Fin 3) : sProp 𝕄)),
    bigSep_univ_equiv permY (fun c : Dev nD => (dutyTok ER (barCell c) 0 (0 : Fin 3) : sProp 𝕄)),
    bigSep_univ_equiv permX (fun c : Dev nD => (dutyTok ER (barCell c) 0 (1 : Fin 3) : sProp 𝕄)),
    bigSep_univ_equiv permZ (fun c : Dev nD => (dutyTok ER (barCell c) 0 (2 : Fin 3) : sProp 𝕄)),
    bigSep_univ_equiv permC (fun p : Dev nD × Ch => (dutyTok ER (cell p.1 p.2) 0 (0 : Fin 3) : sProp 𝕄))]
  exact BI.Entails.refl _

/-- What is device `c`'s alone: its place at each of its cells, and the tokens it pays with. -/
noncomputable def linear (c : Dev nD) : sProp 𝕄 :=
  iprop((bigSep Finset.univ fun k : Option Ch => atPos ER (kcell (c, k)) 0 ∅ 0) ∗ payToks c)

/-- What a device starts with: the cells' invariants under some names, and what is its alone. -/
noncomputable def G' (c : Dev nD) : sProp 𝕄 := iprop(∃ K, records m K ∗ linear c)

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun p : Dev nD × Option Ch => iprop(∃ κ : ℕ, cellInv ER (Rd m) κ (kcell p))),
    bigSep_congr (s := Finset.univ) (fun (c : Dev nD) _ =>
      bigSep_sep' Finset.univ (fun k : Option Ch => (atPos ER (kcell (c, k)) 0 ∅ 0 : sProp 𝕄)) (fun k => reached ER (kcell (c, k)) 0)),
    bigSep_sep', ← bigSep_univ_prod (fun p : Dev nD × Option Ch => (reached ER (kcell p) 0 : sProp 𝕄))]
  iintro ⟨HI, ⟨Hat, #HR⟩, Htok⟩
  ihave HK := (BI.bigSep_exists_pi Finset.univ (fun (p : Dev nD × Option Ch) (κ : ℕ) => (cellInv ER (Rd m) κ (kcell p) : sProp 𝕄))) $$ HI
  icases HK with ⟨%K, #HI⟩
  ihave Htk := (toks_deal (F := F)) $$ Htok
  iapply (sep_share (R := records m K) (Φ := fun c : Dev nD => linear c) fun c _ => show _ ⊢ G' m c by
    unfold G'; iintro ⟨H1, H2⟩; iexists K; isplitl [H1] <;> iassumption)
  isplitr
  · unfold records; isplitl; · iexact HI
    iexact HR
  · unfold linear
    rw [bigSep_sep']
    isplitl [Hat]; · iexact Hat
    iexact Htk

/-- All devices' cells set up at once. -/
theorem glob : (bigSep Finset.univ fun c => iprop(Pipeline.ownSems0 (Ix := Unit) (Name := ℕ) (U := UU) (Lvl := ℕ) (Val := Elt F) (τ := τ) osem c
      ∗ unscopedSems0 c ∗ G m c) : sProp 𝕄) ⊢ |={Set.univ}=> bigSep Finset.univ (G' m) :=
  ((bigSep_mono fun c _ => core_alloc m c).trans (bigSep_fupd _ _)).trans (BI.fupd_mono (regroup m))

/-! ## The credit -/

/-- What device `c` owes at launch: its transfers and its three signals. -/
noncomputable def O₀ (c : Dev nD) : CellTallies nD τ sig Unit := owed c Finset.univ + bars c

/-- The credit of one channel, for the device that waits on it. -/
theorem cred_due (h : Ch) (hr : h.recv = true) (c : Dev nD) :
    (Pipeline.launchCred (fun d => due d h) c : sProp 𝕄) ⊢ cred (tallyAt (cell c h) () h.amt) := by
  have e : (fun d : Dev nD => due d h) = fun d => tallyAt (((tgt d h).tc : Thread nD τ), SemLoc.dma h.sem) () h.amt :=
    funext fun d => by rw [due, if_pos hr]
  rw [e]
  exact Pipeline.launchCred_tallyAt (SemLoc.dma h.sem) (tgt · h) (tgt · h) (fun c => tgt_tgt c h) (fun c => tgt_tgt c h) () h.amt c

/-- The credit of one of the three signals. -/
theorem cred_bar (f : Dev nD → Dev nD) (hf : ∀ c, f (f c) = c) (c : Dev nD) :
    (Pipeline.launchCred (fun d => barDue (f d)) c : sProp 𝕄) ⊢ cred (tallyAt (barCell c) () 1) :=
  Pipeline.launchCred_tallyAt (SemLoc.reg barS) f f hf hf () 1 c

/-- The launch gives each device the credit of its barrier wait and of its waits for other devices' transfers. -/
theorem creds (c : Dev nD) :
    (Pipeline.launchCred O₀ c : sProp 𝕄) ⊢ iprop(cred (tallyAt (barCell c) () 3)
      ∗ bigSep (Finset.univ.filter fun h : Ch => h.recv = true) fun h => cred (tallyAt (cell c h) () h.amt)) := by
  have e : (O₀ : Dev nD → CellTallies nD τ sig Unit)
      = fun d => (∑ h ∈ Finset.univ, due d h) + (barDue (nz d) + barDue (nx d) + barDue (ny d)) := rfl
  rw [e, Pipeline.launchCred_add (fun d => ∑ h ∈ Finset.univ, due d h), Pipeline.launchCred_add (fun d => barDue (nz d) + barDue (nx d)),
    Pipeline.launchCred_add (fun d => barDue (nz d)), Pipeline.launchCred_sum Finset.univ fun h d => due d h]
  have e3 : (tallyAt (barCell c) () 3 : CellTallies nD τ sig Unit)
      = tallyAt (barCell c) () 1 + tallyAt (barCell c) () 1 + tallyAt (barCell c) () 1 := by
    rw [tallyAt_add, tallyAt_add]
  rw [e3]
  have hd : (bigSep Finset.univ fun h : Ch => (Pipeline.launchCred (fun d => due d h) c : sProp 𝕄))
      ⊢ bigSep (Finset.univ.filter fun h : Ch => h.recv = true) fun h => cred (tallyAt (cell c h) () h.amt) :=
    (bigSep_subset (Finset.filter_subset (fun h : Ch => h.recv = true) Finset.univ)).trans
      (bigSep_mono fun h hh => cred_due h (Finset.mem_filter.mp hh).2 c)
  iintro ⟨Hd, ⟨Hz, Hx⟩, Hy⟩
  isplitl [Hz Hx Hy]
  · iapply (cred_add _ _).2
    isplitl [Hz Hx]
    · iapply (cred_add _ _).2
      isplitl [Hz]; · iapply (cred_bar nz nz_nz c); iexact Hz
      iapply (cred_bar nx nx_nx c); iexact Hx
    iapply (cred_bar ny ny_ny c); iexact Hy
  · iapply hd
    iexact Hd

end Cert.AllReduce
-- ==== Proof.Mem.lean ====
/-
  The memory of a device as the pieces the kernel moves: each buffer cut into its chunks, and put together again.
-/
module

public import proofs.«01_k».proof.Proof.Body

@[expose] public section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Elements owned at some contents -/

section Any
variable (c : Dev nD) {sp : Space} {s : Shape} {e : EltTy} (b : Memref sig .tc sp s e)

omit [FloatOps F] in
theorem any_sat : anyOf (F := F) c b ⊣⊢ ownsSat (Ix := Unit) (Name := ℕ) (U := UU) (Lvl := ℕ) (c : Thread nD τ) b fullShare (fun _ => True) := by
  unfold anyOf ownsSat
  constructor
  · iintro ⟨%f, H⟩; iexists f; isplitr; · ipureintro; trivial
    iexact H
  · iintro ⟨%f, -, H⟩; iexists f; iexact H

/-- Elements owned at some contents are owned at contents that have a name. -/
theorem any_own : anyOf (F := F) c b ⊢ iprop(∃ X, own c b fullShare X) := (any_sat c b).1.trans (ownsSat_true ..).1

variable {T : Type} [Fintype T] [DecidableEq T] (r : T → Rect s) (hr : ∀ t a, (r t).stride a = 1)
  (hd : ∀ t t', t ≠ t' → Disjoint (r t).set (r t').set)
  (hcov : (Finset.univ : Finset T).biUnion (fun t => (r t).set) = Finset.univ)
include hd hcov

/-- A buffer is its pieces, -/
theorem any_split : anyOf (F := F) c b ⊢ bigSep Finset.univ fun t => anyOf c (b.slice (r t) (hr t)) := by
  refine (any_own c b).trans ?_
  iintro ⟨%X, H⟩
  have h : own c b fullShare X ⊢ bigSep Finset.univ fun t => anyOf (F := F) c (b.slice (r t) (hr t)) :=
    (owns_rects (c : Thread nD τ) b fullShare r hr hd hcov X).trans (bigSep_mono fun t _ => any_of_own c _ _)
  iapply h; iexact H

/-- and the pieces are the buffer. -/
theorem any_join : (bigSep Finset.univ fun t => anyOf c (b.slice (r t) (hr t))) ⊢ anyOf (F := F) c b := by
  refine (bigSep_mono fun t _ => (any_sat c (b.slice (r t) (hr t))).1).trans ?_
  refine (ownsSat_of_rects (c : Thread nD τ) b fullShare r hr hd hcov (fun _ _ => True)).trans ?_
  exact (ownsSat_mono _ _ _ fun _ _ => trivial).trans (any_sat c b).2

end Any

/-! ## The scratch buffers -/

theorem rows_split (c : Dev nD) (b : Memref sig .tc .vmem S8192x1024 .bf16) :
    anyOf (F := F) c b ⊢ bigSep Finset.univ fun k : Fin 16 => anyOf c (row b k) :=
  any_split c b rowR (fun _ _ => rfl) row_disj row_cover
theorem rows_join (c : Dev nD) (b : Memref sig .tc .vmem S8192x1024 .bf16) :
    (bigSep Finset.univ fun k : Fin 16 => anyOf c (row b k)) ⊢ anyOf (F := F) c b :=
  any_join c b rowR (fun _ _ => rfl) row_disj row_cover

theorem slot_disj (j j' : Fin 2) (h : j ≠ j') : Disjoint (slotR j).set (slotR j').set := by
  rw [Finset.disjoint_left]
  intro i hi hi'
  have h1 := (Rect.mem_set_unit.mp hi) 0
  have h2 := (Rect.mem_set_unit.mp hi') 0
  simp at h1 h2
  exact h (Fin.ext (by omega))

theorem slot_cover : (Finset.univ : Finset (Fin 2)).biUnion (fun j => (slotR j).set) = Finset.univ := by
  ext i
  simp only [Finset.mem_biUnion, Finset.mem_univ, true_and, iff_true]
  have h0 : (i 0 : Nat) < 2 := (i 0).isLt
  have h1 : (i 1 : Nat) < 512 := (i 1).isLt
  have h2 : (i 2 : Nat) < 1024 := (i 2).isLt
  refine ⟨⟨(i 0 : Nat), h0⟩, Rect.mem_set_unit.mpr fun a => ?_⟩
  fin_cases a
  · simp
  · simp; omega
  · simp; omega

theorem any_slot (c : Dev nD) (b : Memref sig .tc .vmem S2x512x1024 .f32) (j : Fin 2) :
    anyOf (F := F) c (slot b j) = anyOf c (b.slice (slotR j) (fun _ => rfl)) := by
  unfold anyOf
  rw [show (slot b j).view.set = (b.slice (slotR j) (fun _ => rfl)).view.set from View.set_reshape ..]

theorem slots_split (c : Dev nD) (b : Memref sig .tc .vmem S2x512x1024 .f32) :
    anyOf (F := F) c b ⊢ slots c b 0 0 := by
  refine (any_split c b slotR (fun _ _ => rfl) slot_disj slot_cover).trans ?_
  unfold slots
  rw [fam_univ (fun j hj => by omega)]
  exact bigSep_mono fun j _ => Entails.of_eq (any_slot c b j).symm
theorem slots_join (c : Dev nD) (b : Memref sig .tc .vmem S2x512x1024 .f32) :
    slots c b 16 16 ⊢ anyOf (F := F) c b := by
  refine .trans ?_ (any_join c b slotR (fun _ _ => rfl) slot_disj slot_cover)
  unfold slots
  rw [fam_univ (fun j hj => by omega)]
  exact bigSep_mono fun j _ => Entails.of_eq (any_slot c b j)

/-! ## The argument -/

theorem mem_blk {t : Fin 4} {k : Fin 16} {i : S32768x1024.Idx} :
    i ∈ (blkR t k).set ↔ 8192 * t.val + 512 * k.val ≤ (i 0 : Nat) ∧ (i 0 : Nat) < 8192 * t.val + 512 * k.val + 512 := by
  have h1 : (i 1 : Nat) < 1024 := (i 1).isLt
  rw [Rect.mem_set_unit]
  constructor
  · intro h; have := h 0; simpa using this
  · intro h a; fin_cases a
    · simpa using h
    · simp; omega

theorem blk_disj (p p' : Fin 4 × Fin 16) (h : p ≠ p') : Disjoint (blkR p.1 p.2).set (blkR p'.1 p'.2).set := by
  rw [Finset.disjoint_left]
  intro i hi hi'
  rw [mem_blk] at hi hi'
  exact h (Prod.ext (Fin.ext (by omega)) (Fin.ext (by omega)))

theorem blk_cover : (Finset.univ : Finset (Fin 4 × Fin 16)).biUnion (fun p => (blkR p.1 p.2).set) = Finset.univ := by
  ext i
  simp only [Finset.mem_biUnion, Finset.mem_univ, true_and, iff_true]
  have h0 : (i 0 : Nat) < 32768 := (i 0).isLt
  exact ⟨(⟨(i 0 : Nat) / 8192, by omega⟩, ⟨(i 0 : Nat) % 8192 / 512, by omega⟩), mem_blk.mpr (by dsimp only; omega)⟩

/-- The four quarters, from the one a device reduces on. -/
theorem quarters {R : Type} [URA R] (c : Dev nD) (Φ : Fin 4 → sProp R) :
    bigSep Finset.univ Φ = iprop(Φ (qo c) ∗ Φ (qo (ny c)) ∗ Φ (qo (nx c)) ∗ Φ (qo (nz c))) :=
  bigSep_univ_eq_bigSepL [qo c, qo (ny c), qo (nx c), qo (nz c)] (by revert c; decide) (by revert c; decide) Φ

/-- The contents of a device's argument at launch. -/
abbrev x₀ (c : Dev nD) : S32768x1024.Idx → Elt F .f32 := xM.view.read (Elt F) (m ((c : Thread nD τ).loc main_arg0))

/-- A quarter of the argument. -/
noncomputable def xQt (c : Dev nD) (t : Fin 4) : sProp 𝕄 := bigSep Finset.univ fun k : Fin 16 => own c (blk xM t k) fullShare (xv m c t k)

theorem x_quarters (c : Dev nD) :
    own c xM fullShare (x₀ m c) ⊣⊢ iprop(xQt m c (qo c) ∗ xQt m c (qo (ny c)) ∗ xQt m c (qo (nx c)) ∗ xQt m c (qo (nz c))) := by
  rw [← quarters c (xQt m c)]
  unfold xQt
  have e : (bigSep Finset.univ fun p : Fin 4 × Fin 16 => own c (blk xM p.1 p.2) fullShare (fun j => x₀ m c ((blkR p.1 p.2).emb j)))
      = bigSep Finset.univ fun t : Fin 4 => bigSep Finset.univ fun k : Fin 16 => own c (blk xM t k) fullShare (xv m c t k) :=
    bigSep_univ_prod _
  rw [← e]
  exact ⟨owns_rects (c : Thread nD τ) xM fullShare _ (fun _ _ => rfl) blk_disj blk_cover _,
    owns_of_rects (c : Thread nD τ) xM fullShare (fun p : Fin 4 × Fin 16 => blkR p.1 p.2) (fun _ _ => rfl) blk_disj blk_cover _⟩

theorem homeS_eq (c : Dev nD) (a n : ℕ) (h : ∀ k, k < 16 → a ≤ k ∨ k < n) : homeS m c a n = xQt m c (qo (ny c)) := by
  unfold homeS xQt; rw [fam_univ h]; simp only [xS_eq]
theorem homeQ_eq (c : Dev nD) (a n : ℕ) (h : ∀ k, k < 16 → a ≤ k ∨ k < n) : homeQ m c a n = xQt m c (qo c) := by
  unfold homeQ xQt; rw [fam_univ h]; simp only [xQ_eq]

/-! ## The result -/

theorem inb_q (t : Fin 4) : ∀ a, (![8192 * t.val, 0] : Fin 2 → Nat) a + S8192x1024.size a ≤ S32768x1024.size a := by
  revert t; decide

/-- The rows of quarter `t`. -/
abbrev qR (t : Fin 4) : Rect S32768x1024 := Rect.unit (s := S32768x1024) ![8192 * t.val, 0] S8192x1024.size (inb_q t)

/-- A quarter of the result. -/
abbrev oqt (t : Fin 4) : Memref sig .tc .hbm S8192x1024 .bf16 := oM.slice (qR t) (fun _ => rfl)

theorem off_oOwn (c : Dev nD) : k0_off3 c = ![8192 * (qo c).val, 0] := by revert c; decide +kernel
theorem slice_congr_q {o o' : Fin 2 → Nat} (h : o = o') (hi) (hi') :
    (oM.slice (Rect.unit (s := S32768x1024) o S8192x1024.size hi) (fun _ => rfl) : Memref sig .tc .hbm S8192x1024 .bf16)
      = oM.slice (Rect.unit (s := S32768x1024) o' S8192x1024.size hi') (fun _ => rfl) := by subst h; rfl
theorem oOwn_eq (c : Dev nD) : oOwn c = oqt (qo c) := slice_congr_q (off_oOwn c) _ _

/-- The quarters a device does not reduce: of its neighbours along x, z and y. -/
def qs (c : Dev nD) : Fin 3 → Fin 4 := ![qo (nx c), qo (nz c), qo (ny c)]

/-- The result's pieces: the own quarter whole, the others by chunks. -/
abbrev outR (c : Dev nD) : Unit ⊕ (Fin 3 × Fin 16) → Rect S32768x1024 := Sum.elim (fun _ => qR (qo c)) (fun p => blkR (qs c p.1) p.2)

theorem out_unit (c : Dev nD) (p : Unit ⊕ (Fin 3 × Fin 16)) (a : Fin 2) : (outR c p).stride a = 1 := by rcases p with _ | p <;> rfl

theorem mem_q {t : Fin 4} {i : S32768x1024.Idx} : i ∈ (qR t).set ↔ 8192 * t.val ≤ (i 0 : Nat) ∧ (i 0 : Nat) < 8192 * t.val + 8192 := by
  have h1 : (i 1 : Nat) < 1024 := (i 1).isLt
  rw [Rect.mem_set_unit]
  constructor
  · intro h; have := h 0; simpa using this
  · intro h a; fin_cases a
    · simpa using h
    · simp; omega

theorem qs_inj (c : Dev nD) (j j' : Fin 3) : qs c j = qs c j' → j = j' := by revert c j j'; decide +kernel
theorem qs_ne (c : Dev nD) (j : Fin 3) : qs c j ≠ qo c := by revert c j; decide +kernel
theorem qs_all (c : Dev nD) (t : Fin 4) : t = qo c ∨ ∃ j, qs c j = t := by revert c t; decide +kernel

theorem out_disj (c : Dev nD) (p p' : Unit ⊕ (Fin 3 × Fin 16)) (h : p ≠ p') : Disjoint (outR c p).set (outR c p').set := by
  have hq (j : Fin 3) (k : Fin 16) : Disjoint (qR (qo c)).set (blkR (qs c j) k).set := by
    rw [Finset.disjoint_left]
    intro i hi hi'
    rw [mem_q] at hi; rw [mem_blk] at hi'
    exact qs_ne c j (Fin.ext (by omega))
  rcases p with _ | ⟨j, k⟩ <;> rcases p' with _ | ⟨j', k'⟩
  · exact absurd rfl h
  · exact hq j' k'
  · exact (hq j k).symm
  · refine blk_disj (qs c j, k) (qs c j', k') fun e => h ?_
    rw [qs_inj c j j' (congrArg Prod.fst e), show k = k' from congrArg Prod.snd e]

theorem out_cover (c : Dev nD) : (Finset.univ : Finset (Unit ⊕ (Fin 3 × Fin 16))).biUnion (fun p => (outR c p).set) = Finset.univ := by
  ext i
  simp only [Finset.mem_biUnion, Finset.mem_univ, true_and, iff_true]
  have h0 : (i 0 : Nat) < 32768 := (i 0).isLt
  rcases qs_all c ⟨(i 0 : Nat) / 8192, by omega⟩ with e | ⟨j, e⟩
  · exact ⟨.inl (), mem_q.mpr (by have := congrArg Fin.val e; dsimp only at this; omega)⟩
  · exact ⟨.inr (j, ⟨(i 0 : Nat) % 8192 / 512, by omega⟩), mem_blk.mpr (by have := congrArg Fin.val e; dsimp only at this ⊢; omega)⟩

/-- The chunks of a quarter: the six sent along y, the five forwarded along x and the five forwarded along z. -/
noncomputable def chunks : Fin 6 ⊕ (Fin 5 ⊕ Fin 5) ≃ Fin 16 :=
  Equiv.ofBijective (Sum.elim yk (Sum.elim fxk fzk)) (by decide)

theorem split16 {R : Type} [URA R] (Φ : Fin 16 → sProp R) :
    bigSep Finset.univ Φ = iprop((bigSep Finset.univ fun k : Fin 6 => Φ (yk k)) ∗ (bigSep Finset.univ fun i : Fin 5 => Φ (fxk i))
      ∗ (bigSep Finset.univ fun i : Fin 5 => Φ (fzk i))) := by
  rw [bigSep_univ_equiv chunks, bigSep_univ_sum, bigSep_univ_sum]; rfl

theorem split3 {R : Type} [URA R] (Φ : Fin 3 → sProp R) : bigSep Finset.univ Φ = iprop(Φ 0 ∗ Φ 1 ∗ Φ 2) :=
  bigSep_univ_eq_bigSepL [0, 1, 2] (by decide) (by decide) Φ

/-- A conjunction over the result's pieces. -/
theorem out_pieces {R : Type} [URA R] (Φ : Unit ⊕ (Fin 3 × Fin 16) → sProp R) :
    bigSep Finset.univ Φ = iprop(Φ (.inl ()) ∗ (bigSep Finset.univ fun k => Φ (.inr (0, k))) ∗ (bigSep Finset.univ fun k => Φ (.inr (1, k)))
      ∗ (bigSep Finset.univ fun k : Fin 6 => Φ (.inr (2, yk k))) ∗ (bigSep Finset.univ fun i : Fin 5 => Φ (.inr (2, fxk i)))
      ∗ (bigSep Finset.univ fun i : Fin 5 => Φ (.inr (2, fzk i)))) := by
  rw [bigSep_univ_sum, bigSep_univ_prod, split3, split16 (fun k => Φ (.inr (2, k))), Finset.univ_unique, bigSep_singleton]; rfl

theorem qo_zx (c : Dev nD) : qo (nz (nx c)) = qo (ny c) := by revert c; decide +kernel
theorem qo_xz (c : Dev nD) : qo (nx (nz c)) = qo (ny c) := by revert c; decide +kernel
theorem oX_blk (c : Dev nD) (k : Fin 16) : oX (nx c) k = blk oM (qo (ny c)) k := by rw [oX_eq, oQ_eq, qo_zx]
theorem oZ_blk (c : Dev nD) (k : Fin 16) : oZ (nz c) k = blk oM (qo (ny c)) k := by rw [oZ_eq, oQ_eq, qo_xz]

/-- The result's buffer, cut for the kernel: the own quarter, and what each neighbour writes. -/
theorem out_split (c : Dev nD) :
    anyOf (F := F) c oM ⊢ iprop(anyOf c (oOwn c) ∗ (bigSep Finset.univ fun k : Fin 16 => anyOf c (oQ (nx c) k))
      ∗ (bigSep Finset.univ fun k : Fin 16 => anyOf c (oQ (nz c) k)) ∗ (bigSep Finset.univ fun k : Fin 6 => anyOf c (oQ (ny c) (yk k)))
      ∗ (bigSep Finset.univ fun i : Fin 5 => anyOf c (oX (nx c) (fxk i))) ∗ (bigSep Finset.univ fun i : Fin 5 => anyOf c (oZ (nz c) (fzk i)))) := by
  refine (any_split c oM (outR c) (out_unit c) (out_disj c) (out_cover c)).trans ?_
  rw [out_pieces]
  simp only [oOwn_eq, oX_blk, oZ_blk, oQ_eq]
  exact .rfl

/-! ## The result's contents -/

/-- The sum, over a device and its neighbour along y, of their arguments rounded. -/
def sumOf (d : Dev nD) : FVec F S32768x1024 .bf16 :=
  addf (truncf .bf16 (x₀ m d) bitsLt_bf16_f32) (truncf .bf16 (x₀ m (ny d)) bitsLt_bf16_f32)

theorem rv_eq (d : Dev nD) (k : Fin 16) : rv m d k = fun j => sumOf m d ((blkR (qo d) k).emb j) := by
  unfold rv sv; rw [ny_ny]; rfl

/-- The device whose sum a chunk of device `c`'s result is. -/
def who (c : Dev nD) (t : Fin 4) (k : Fin 16) : Dev nD :=
  if t = qo c then c else if t = qo (nx c) then nx c else if t = qo (nz c) then nz c
  else if k.val < 6 then ny c else if k.val < 11 then nz (nx c) else nx (nz c)

theorem qo_who (c : Dev nD) (t : Fin 4) (k : Fin 16) : qo (who c t k) = t := by revert c t k; decide +kernel
theorem who_own (c : Dev nD) (k : Fin 16) : who c (qo c) k = c := by revert c k; decide +kernel
theorem who_x (c : Dev nD) (k : Fin 16) : who c (qo (nx c)) k = nx c := by revert c k; decide +kernel
theorem who_z (c : Dev nD) (k : Fin 16) : who c (qo (nz c)) k = nz c := by revert c k; decide +kernel
theorem who_y (c : Dev nD) (k : Fin 6) : who c (qo (ny c)) (yk k) = ny c := by revert c k; decide +kernel
theorem who_zx (c : Dev nD) (i : Fin 5) : who c (qo (ny c)) (fxk i) = nz (nx c) := by revert c i; decide +kernel
theorem who_xz (c : Dev nD) (i : Fin 5) : who c (qo (ny c)) (fzk i) = nx (nz c) := by revert c i; decide +kernel

/-- What device `c`'s result holds in the end. -/
def outv (c : Dev nD) : S32768x1024.Idx → Elt F .bf16 := fun i =>
  sumOf m (who c ⟨(i 0 : Nat) / 8192, by have h : (i 0 : Nat) < 32768 := (i 0).isLt; omega⟩
    ⟨(i 0 : Nat) % 8192 / 512, by omega⟩) i

theorem emb_blk0 (t : Fin 4) (k : Fin 16) (j : S512x1024.Idx) : ((blkR t k).emb j 0 : Nat) = 8192 * t.val + 512 * k.val + (j 0 : Nat) := by
  rw [Rect.emb_apply]; simp

theorem outv_blk (c : Dev nD) (t : Fin 4) (k : Fin 16) : (fun j => outv m c ((blkR t k).emb j)) = rv m (who c t k) k := by
  rw [rv_eq]
  funext j
  have hj : (j 0 : Nat) < 512 := (j 0).isLt
  have h0 := emb_blk0 t k j
  unfold outv
  rw [qo_who]
  have e1 : (⟨((blkR t k).emb j 0 : Nat) / 8192, by omega⟩ : Fin 4) = t := Fin.ext (by dsimp only; omega)
  have e2 : (⟨((blkR t k).emb j 0 : Nat) % 8192 / 512, by omega⟩ : Fin 16) = k := Fin.ext (by dsimp only; omega)
  rw [e1, e2]

theorem outv_own (c : Dev nD) {d : Dev nD} {t : Fin 4} {k : Fin 16} (h : who c t k = d) :
    own c (blk oM t k) fullShare (rv m d k) = own c (blk oM t k) fullShare (fun j => outv m c ((blkR t k).emb j)) := by
  subst h; exact congrArg (own c (blk oM t k) fullShare) (outv_blk m c t k).symm

theorem emb_q (t : Fin 4) (k : Fin 16) (j : S512x1024.Idx) : (qR t).emb ((rowR k).emb j) = (blkR t k).emb j := by
  funext a
  apply Fin.ext
  fin_cases a
  · rw [Rect.emb_apply, Rect.emb_apply, Rect.emb_apply]; simp; omega
  · rw [Rect.emb_apply, Rect.emb_apply, Rect.emb_apply]; simp

theorem outv_q (c : Dev nD) : (fun j => outv m c ((qR (qo c)).emb j)) = rq m c :=
  Rect.ext_of_cover rowR row_cover fun k j => by
    have h1 := congrFun (rq_row m c k) j
    have h2 := congrFun (outv_blk m c (qo c) k) j
    rw [who_own] at h2
    rw [emb_q]; exact h2.trans h1.symm

/-- The pieces the kernel leaves make the result. -/
theorem out_join (c : Dev nD) :
    iprop(own c (oOwn c) fullShare (rq m c) ∗ inX m c 16 16 ∗ inZ m c 16 11 ∗ inY m c 6 ∗ inFX m c 5 ∗ inFZ m c 5) ⊢ own c oM fullShare (outv m c) := by
  refine .trans ?_ (owns_of_rects (Val := Elt F) (c : Thread nD τ) oM fullShare (outR c) (out_unit c) (out_disj c) (out_cover c) (outv m c))
  rw [out_pieces]
  unfold inX inZ inY inFX inFZ
  rw [fam_univ (fun j hj => by omega), fam_univ (fun j hj => by omega), fam_univ (fun j hj => hj), fam_univ (fun j hj => hj), fam_univ (fun j hj => hj)]
  simp only [oOwn_eq, oX_blk, oZ_blk, oQ_eq, ← outv_q m c]
  refine BIClass.sep_mono .rfl (BIClass.sep_mono ?_ (BIClass.sep_mono ?_ (BIClass.sep_mono ?_ (BIClass.sep_mono ?_ ?_))))
  · exact bigSep_mono fun k _ => by exact Entails.of_eq (outv_own m c (who_x c k))
  · exact bigSep_mono fun k _ => by exact Entails.of_eq (outv_own m c (who_z c k))
  · exact bigSep_mono fun k _ => by exact Entails.of_eq (outv_own m c (who_y c k))
  · exact bigSep_mono fun k _ => by exact Entails.of_eq (outv_own m c (who_zx c k))
  · exact bigSep_mono fun k _ => by exact Entails.of_eq (outv_own m c (who_xz c k))

end Cert.AllReduce
-- ==== Proof.Launch.lean ====
/-
  The kernel run on the whole mesh: every device starts from its buffers and its share of the launch, and ends with the
  result written and its argument and all counters as they were.
-/
module

public import proofs.«01_k».proof.Proof.Deal
public import proofs.«01_k».proof.Proof.Mem
public import proofs.«01_k».proof.Proof.Gen.KernelIdeal.Skeleton
public import Idealize.ShloMosaic.Lib.Pipeline.CollectiveSegs
public import Idealize.ShloMosaic.Lib.Tactic

@[expose] public section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ UU ℕ

variable (m : (ℓ : Loc nD τ sig) → Buf (Elt F) ℓ)

/-! ## A device's memory before and after -/

/-- The scratch buffers, at any contents. -/
noncomputable def scratch (c : Dev nD) : sProp 𝕄 :=
  iprop(anyOf c sM ∗ anyOf c pM ∗ anyOf c rM ∗ anyOf c aM ∗ anyOf c bM)

/-- The part of the argument the kernel does not touch. -/
noncomputable def restX (c : Dev nD) : sProp 𝕄 := iprop(xQt m c (qo (nx c)) ∗ xQt m c (qo (nz c)))

/-- The buffers cut into what the device keeps and what it hands to its neighbours. -/
theorem mem_in (c : Dev nD) :
    iprop(own c xM fullShare (x₀ m c) ∗ anyOf c oM ∗ scratch c) ⊢ iprop(barOut c ∗ memPre m c ∗ restX m c) := by
  unfold scratch barOut memPre restX
  simp only [barPay, ny_ny, nx_nx, nz_nz]
  rw [homeS_eq m c 0 0 (fun k _ => Or.inl (Nat.zero_le k)), homeQ_eq m c 0 0 (fun k _ => Or.inl (Nat.zero_le k))]
  iintro ⟨Hx, Ho, Hs, Hp, Hr, Ha, Hb⟩
  ihave Hx := (x_quarters m c).1 $$ Hx
  icases Hx with ⟨Hq, Hy, Hrx, Hrz⟩
  ihave Ho := (out_split c) $$ Ho
  icases Ho with ⟨Ho, Hox, Hoz, Hoy, Hofx, Hofz⟩
  ihave Hp := (rows_split c pM) $$ Hp
  ihave Hs := ((rows_split c sM).trans (rowsFrom_all c sM)) $$ Hs
  ihave Hr := ((rows_split c rM).trans (rowsFrom_all c rM)) $$ Hr
  ihave Ha := (slots_split c aM) $$ Ha
  ihave Hb := (slots_split c bM) $$ Hb
  isplitl [Hp Hoy Hox Hofx Hoz Hofz]
  · isplitl [Hp Hoy]
    · isplitl [Hp]; · iexact Hp
      iexact Hoy
    isplitl [Hox Hofx]
    · isplitl [Hox]; · iexact Hox
      iexact Hofx
    isplitl [Hoz]; · iexact Hoz
    iexact Hofz
  isplitr [Hrx Hrz]
  · isplitl [Hy]; · iexact Hy
    isplitl [Hq]; · iexact Hq
    isplitl [Ha]; · iexact Ha
    isplitl [Hb]; · iexact Hb
    isplitl [Hs]; · iexact Hs
    isplitl [Hr]; · iexact Hr
    iexact Ho
  isplitl [Hrx]; · iexact Hrx
  iexact Hrz

theorem rowsTo_join (c : Dev nD) (b : Memref sig .tc .vmem S8192x1024 .bf16) : rowsTo c b 16 ⊢ anyOf (F := F) c b := by
  refine .trans ?_ (rows_join c b)
  unfold rowsTo
  exact Entails.of_eq (fam_univ (fun j hj => hj) _)

/-- The pieces at the end are the buffers again, the result's holding the sums. -/
theorem mem_out (c : Dev nD) :
    iprop(memPost m c ∗ restX m c) ⊢ iprop(own c xM fullShare (x₀ m c) ∗ own c oM fullShare (outv m c) ∗ scratch c) := by
  unfold memPost restX scratch
  rw [homeS_eq m c 16 16 (fun k hk => Or.inr hk), homeQ_eq m c 16 16 (fun k hk => Or.inr hk)]
  iintro ⟨⟨⟨Hy, Hq⟩, ⟨Ha, Hb, Hs, Hp, Hr⟩, Ho⟩, Hrx, Hrz⟩
  isplitl [Hy Hq Hrx Hrz]
  · iapply (x_quarters m c).2
    isplitl [Hq]; · iexact Hq
    isplitl [Hy]; · iexact Hy
    isplitl [Hrx]; · iexact Hrx
    iexact Hrz
  isplitl [Ho]
  · iapply (out_join m c); iexact Ho
  isplitl [Hs]; · iapply (rowsTo_join c sM); iexact Hs
  isplitl [Hp]; · iapply (rowsTo_join c pM); iexact Hp
  isplitl [Hr]; · iapply (any_of_own c rM (rq m c)); iexact Hr
  isplitl [Ha]; · iapply (slots_join c aM); iexact Ha
  iapply (slots_join c bM); iexact Hb

theorem U_none : Ufw 5 5 = ∅ := by
  ext c; cases c <;> simp [mem_U, Uhas] <;> (try unfold ahead) <;> (try split_ifs) <;> omega

theorem owed_none (c : Dev nD) : owed c ∅ = 0 := Finset.sum_empty

/-! ## A device's start and end -/

/-- What a device starts from. -/
noncomputable def start (c : Dev nD) : sProp 𝕄 :=
  iprop((G' m c ∗ levAts L lv ∗ cred (tallyAt (barCell c) () 3)
      ∗ bigSep (Finset.univ.filter fun h : Ch => h.recv = true) fun h => cred (tallyAt (cell c h) () h.amt))
    ∗ own c xM fullShare (x₀ m c) ∗ anyOf c oM)

/-- Before the kernel: the start, and the scratch buffers. -/
noncomputable def Φ₀ (c : Dev nD) : sProp 𝕄 := iprop(start m c ∗ scratch c)
/-- After it: argument and result, the counters at zero, and the scratch buffers. -/
noncomputable def Φ₁ (c : Dev nD) : sProp 𝕄 :=
  iprop((own c xM fullShare (x₀ m c) ∗ own c oM fullShare (outv m c) ∗ semVal (barCell c) 0)
    ∗ (bigSep Finset.univ fun h : Ch => semVal (cell c h) 0) ∗ scratch c)

/-- The kernel on device `c`, from its start to its end. -/
theorem device_spec (c : Dev nD) (Wt : Waits sig Unit) :
    iprop(Φ₀ m c ∗ owes (c : Thread nD τ) (O₀ c) Wt) ⊢ WP c (prog c) (fun _ => iprop(Φ₁ m c ∗ ∃ Wt', owes (c : Thread nD τ) 0 Wt')) := by
  unfold Φ₀ start G' records linear payToks O₀
  iintro ⟨⟨⟨⟨⟨%K, ⟨#HI, #HR⟩, Hat, Htb, Htc⟩, #HL, Hcb, Hcc⟩, Hx, Ho⟩, Hscr⟩, How⟩
  ihave Hat := (Entails.of_eq (sep_option fun k => (atPos ER (kcell (c, k)) 0 ∅ 0 : sProp 𝕄))) $$ Hat
  icases Hat with ⟨Hatb, Hatc⟩
  ihave Hm := (mem_in m c) $$ [Hx Ho Hscr]
  · isplitl [Hx]; · iexact Hx
    isplitl [Ho]; · iexact Ho
    iexact Hscr
  icases Hm with ⟨HbO, Hpre, Hrest⟩
  iapply (wp_wand _ _ _) $$ [How HbO Hpre Hatb Hatc Htb Htc Hcb Hcc]
  · iapply (prog_spec m K c)
    isplitl [How Hatc Htc Hcc]
    · unfold GS env
      rw [U_all, A_all, Finset.compl_univ, bigSep_empty]
      isplitr
      · isplitr; · iexact HI
        isplitr; · iexact HR
        iexact HL
      isplitl [How]; · iexists Wt; iexact How
      isplitl [Htc]; · iexact Htc
      isplitl [Hatc]; · iexact Hatc
      isplitl [Hcc]
      · simp only [Finset.mem_univ, not_true_eq_false, or_false]; iexact Hcc
      iempintro
    isplitl [Htb Hatb Hcb]
    · unfold barG
      isplitl [Htb]; · iexact Htb
      isplitl [Hatb]; · iexact Hatb
      iexact Hcb
    isplitl [HbO]; · iexact HbO
    iexact Hpre
  iintro %_a ⟨HG, Hz, Hm⟩
  ihave Hm := (mem_out m c) $$ [Hm Hrest]
  · isplitl [Hm]; · iexact Hm
    iexact Hrest
  icases Hm with ⟨Hx, Ho, Hscr⟩
  unfold GS Φ₁
  rw [U_none, A_none, owed_none, add_zero, Finset.compl_empty]
  icases HG with ⟨-, How, -, -, -, Hzs⟩
  isplitr [How]
  · isplitl [Hx Ho Hz]
    · isplitl [Hx]; · iexact Hx
      isplitl [Ho]; · iexact Ho
      iexact Hz
    isplitl [Hzs]; · iexact Hzs
    iexact Hscr
  iexact How

/-! ## The whole mesh -/

variable (ρ : Dev nD → PrngReg)

/-- The state before the run. -/
abbrev s₀ : MemSt nD τ sig (Elt F) := ⟨m, fun _ => 0, ρ⟩

noncomputable def dats (_ : Fin 1) (c : Dev nD) : Dat τ (Elt F) Unit ℕ UU ℕ cfg0 c where
  A w := m ((cfg0.win w).arr.view.loc (c : Thread nD τ))
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

theorem ownSemFacts : Pipeline.OwnSemFacts cfg0.spec osem := by decide

theorem share_eq (c : Dev nD) (w : Fin cfg0.W) : (dats m 0 c).share w = fullShare := w.elim0

/-- The kernel has no windows. -/
theorem no_windows {R : Type} [URA R] (Φ : Fin 0 → sProp R) : bigSep Finset.univ Φ = iprop(emp) := by
  rw [Finset.univ_eq_empty, bigSep_empty]; rfl

set_option maxRecDepth 8000 in
/-- The printed body on device `c`. -/
theorem body_spec (c : Dev nD) :
    iprop(Φ₀ m c ∗ (dats m 0 c).owesAt () t0_0.castSucc ∗ emp)
      ⊢ WP c (bodyAt0 t0_0) (fun _ => iprop(Φ₁ m c ∗ (dats m 0 c).owesAt () t0_0.succ ∗ emp)) := by
  rw [body_eq]
  unfold WP
  simp only [Prog.lift, Prog.bind_op, Prog.bind_ret, wp_deviceId]
  unfold Dat.owesAt Pipeline.owesWithin
  rw [show (dats m 0 c).owed t0_0.castSucc = O₀ c from rfl, show (dats m 0 c).owed t0_0.succ = 0 from rfl]
  iintro ⟨HΦ, ⟨%W, -, How⟩, -⟩
  iapply (wp_wand _ _ _) $$ [HΦ How]
  · iapply (device_spec m c W)
    isplitl [HΦ]; · iexact HΦ
    iexact How
  iintro %_a ⟨HΦ, ⟨%W', How⟩⟩
  isplitl [HΦ]; · iexact HΦ
  isplitl [How]
  · iexists W'; isplitr; · ipureintro; exact fun _ _ => Or.inl trivial
    iexact How
  iempintro

set_option maxRecDepth 8000 in
theorem body_obligation (c : Dev nD) : BodyObligation (dats (F := F) m 0 c) (defs₀ (F := F)) 𝒱₀ () Set.univ := fun t => by
  rw [fin_N0 t]
  have e1 : (dats (F := F) m 0 c).Φ t0_0.castSucc = Φ₀ m c := rfl
  have e2 : (dats (F := F) m 0 c).Φ t0_0.succ = Φ₁ m c := rfl
  have e3 : defs₀ (F := F) .tc cfg0.body (cfg0.bodyArgs t0_0 (cfg0.slots t0_0)) = bodyAt0 t0_0 := rfl
  rw [e1, e2, e3]
  simp only [no_windows]
  have h := body_spec m c
  unfold WP at h
  convert h using 1

/-! ## The launch theorem's conditions -/

/-- A whole buffer owned at any contents is its points-to at some. -/
theorem any_whole (c : Dev nD) (b : Ref sig .tc) :
    (iprop(∃ f : Buf (Elt F) ((c : Thread nD τ).loc b), ((c : Thread nD τ).loc b) ↦{fullShare} f) : sProp 𝕄) = anyOf c (Memref.whole b) := by
  have e : (iprop(∃ f : Buf (Elt F) ((c : Thread nD τ).loc b), ((c : Thread nD τ).loc b) ↦{fullShare} f) : sProp 𝕄)
      = iprop(∃ X, own c (Memref.whole b) fullShare X) := by simp only [own, owns_whole]
  rw [e]
  have h : (iprop(∃ X, own c (Memref.whole b) fullShare X) : sProp 𝕄) ⊢ anyOf c (Memref.whole b) := by
    iintro ⟨%X, H⟩
    iapply (any_of_own c (Memref.whole b) X); iexact H
  exact BI.Entails.antisymm h (any_own c (Memref.whole b))

/-- The argument's buffer at what the run starts from. -/
theorem x_own (c : Dev nD) : (((c : Thread nD τ).loc main_arg0) ↦{fullShare} m ((c : Thread nD τ).loc main_arg0) : sProp 𝕄) = own c xM fullShare (x₀ m c) :=
  (owns_whole ..).symm

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Hx, Ho⟩, Hlev, Hcr, -, HG⟩
  ihave Hc := (creds (F := F) c) $$ Hcr
  icases Hc with ⟨H1, HN⟩
  imodintro
  unfold start
  isplitl
  · isplitr [Hx Ho]
    · isplitl [HG]; · iexact HG
      isplitl [Hlev]; · iexact Hlev
      isplitl [H1]; · iexact H1
      iexact HN
    isplitl [Hx]
    · iapply (Entails.of_eq (x_own m c)); iexact Hx
    iapply (Entails.of_eq (any_whole c main_v1))
    iexists (m ((c : Thread nD τ).loc main_v1))
    iexact Ho
  · iempintro

/-- The scratch buffers are the launch's scoped buffers. -/
theorem scratch_eq (c : Dev nD) : (Pipeline.scopedRest cfg0.spec c : sProp 𝕄) = scratch c := by
  rw [scopedRest0_eq, any_whole, any_whole, any_whole, any_whole, any_whole]; rfl

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scratch_eq]
  unfold Φ₀
  iintro ⟨Hs, -, Hr⟩
  isplitl [Hs]; · iexact Hs
  iexact Hr

/-- What a device is known by in the end: its argument, its result, its barrier counter. -/
noncomputable def Y (c : Dev nD) : sProp 𝕄 :=
  iprop(own c xM fullShare (x₀ m c) ∗ own c oM fullShare (outv m c) ∗ unscopedSems0 c)

theorem phi1_exit (c : Dev nD) :
    (dats m 0 c).Φ (Fin.last cfg0.N) ⊢ iprop(Y m c ∗ Pipeline.ownSems0 osem c ∗ Pipeline.scopedRest cfg0.spec c) := by
  rw [show (dats m 0 c).Φ (Fin.last cfg0.N) = Φ₁ m c from rfl, scratch_eq, ownSems0_eq]
  unfold Φ₁ Y
  rw [unscopedSems0_eq]

theorem waits (c : Dev nD) : (levAts L lv : sProp 𝕄) ⊢ Pipeline.cellsWaits cfgs (dats m) () 0 c :=
  Pipeline.cellsWaits_intro cfgs (dats m) () 0 c fun w s t => w.elim0

/-- A buffer owned whole, read off the memory. -/
theorem own_read (c : Dev nD) {sp : Space} {s : Shape} {e : EltTy} (b : Memref sig .tc sp s e) (X : s.Idx → Elt F e) (s' : Phys nD τ sig (Elt F)) :
    iprop(own c b fullShare X ∗ SI s') ⊢ iprop(⌜b.view.read (Elt F) (s'.mem.mem (b.view.loc (c : Thread nD τ))) = X⌝ ∗ SI s' : sProp 𝕄) := by
  unfold own owns
  iintro ⟨⟨%f, %hf, H⟩, HSI⟩
  icombine HSI H gives %h
  isplitr
  · ipureintro; rw [← hf]; exact View.read_congr h
  iexact HSI

/-- The results of a run: each device's argument as it was, and its result holding the sums. -/
def QC (r : PUnit × MemSt nD τ sig (Elt F)) : Prop :=
  ∀ c : Dev nD, r.2.mem ((c : Thread nD τ).loc main_arg0) = m ((c : Thread nD τ).loc main_arg0)
    ∧ r.2.mem ((c : Thread nD τ).loc main_v1) = outv m c

/-- What a device holds at the end, read off the memory. -/
theorem end_read (c : Dev nD) (s' : Phys nD τ sig (Elt F)) :
    iprop(Y m c ∗ emp ∗ SI s') ⊢ |={Set.univ}=> (iprop(⌜(s'.mem.mem ((c : Thread nD τ).loc main_arg0) = m ((c : Thread nD τ).loc main_arg0)
        ∧ s'.mem.mem ((c : Thread nD τ).loc main_v1) = outv m c)
        ∧ ∀ sm : SemLoc sig, sm.isScoped .tc = false → s'.mem.sem ((c.tc : Thread nD τ), sm) = 0⌝ ∗ SI s') : sProp 𝕄) := by
  unfold Y
  iintro ⟨⟨Hx, Ho, Hu⟩, -, HSI⟩
  ihave H := (own_read c xM (x₀ m c) s') $$ [Hx HSI]
  · isplitl [Hx] <;> iassumption
  icases H with ⟨%hx, HSI⟩
  ihave H := (own_read c oM (outv m c) s') $$ [Ho HSI]
  · isplitl [Ho] <;> iassumption
  icases H with ⟨%ho, HSI⟩
  imod (Pipeline.unscopedSems0_read (X := unscopedSems0 c) (c := c) fupd_intro s') $$ [Hu HSI] with ⟨%hs, HSI⟩
  · isplitl [Hu] <;> iassumption
  imodintro
  isplitr
  · ipureintro; exact ⟨⟨hx, ho⟩, hs⟩
  iexact HSI

set_option maxRecDepth 8000 in
/-- For any float values, from any memory with zero counters: every weakly fair execution of the kernel on the eight devices
    terminates, and leaves every argument as it was, every result at the sums, and every counter at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => w.elim0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ w => w.elim0) (hpf := fun _ k => k.elim0)
    (X := start m) (Y := Y m) (Z := fun _ => iprop(emp))
    (hX := start_intro m ρ) (hin := phi0_intro m) (hout := phi1_exit m)
    (QY := fun c s => (s.mem ((c : Thread nD τ).loc main_arg0) = m ((c : Thread nD τ).loc main_arg0)
        ∧ s.mem ((c : Thread nD τ).loc main_v1) = outv m c)
        ∧ ∀ sm : SemLoc sig, sm.isScoped .tc = false → s.sem ((c.tc : Thread nD τ), sm) = 0)
    (hY := end_read m)
    (hQ := fun _ h hs => ⟨fun c => (h c).2.2.1, sem_eq_zero hs fun c => (h c).2.2.2⟩)

end Cert.AllReduce
-- ==== Proof.Value.lean ====
/-
  The kernel's result in exact arithmetic: every device ends holding the sum of the two halves of the whole array.
-/
module

public import proofs.«01_k».proof.Proof.Launch
public import proofs.«01_k».proof.Proof.Gen.ReferenceIdeal
public import Idealize.ShloMosaic.Lib.Layout
public import Idealize.ShloMosaic.Lib.Pointwise
public import Idealize.ShloMosaic.Lib.IdealHost

@[expose] public section

namespace Cert.AllReduce

open Cert.KernelIdeal Cert.KernelIdeal.Gen
open Idealize.ShloMosaic Idealize.ShloMosaic.TcCoe

/-- The whole array, of which a device holds one half of the rows. -/
abbrev Whole : Type := (⟨2, ![65536, 1024]⟩ : Shape).Idx → EReal

/-- A device's coordinate along y. -/
def yOf (c : Dev nD) : Fin 2 := ⟨c.val / 2 % 2, by omega⟩

theorem yOf_ny (c : Dev nD) : yOf (ny c) = 1 - yOf c := by revert c; decide

/-- Element `i` of half `h` of the whole array. -/
def half (X : Whole) (h : Fin 2) (i : S32768x1024.Idx) : EReal :=
  X (ix2 ⟨h.val * 32768 + (i 0).val, by have h0 : (i 0).val < 32768 := (i 0).isLt; have := h.isLt; omega⟩ ⟨(i 1).val, (i 1).isLt⟩)

/-- The half of the whole array a device's coordinates name is the one of its coordinate along y. -/
theorem block_half (X : Whole) (c : Dev nD) :
    (Layout.blockN ⟨2, ![32768, 1024]⟩ ⟨2, ![65536, 1024]⟩ (Layout.meshBlock [2, 2, 2] ![[1], []] c) X) = half X (yOf c) := by
  funext i
  rw [Layout.blockN_apply]
  unfold half
  congr 1
  funext a
  apply Fin.ext
  have hl : Layout.meshLin [2, 2, 2] c.val [1] = (yOf c).val := by revert c; decide
  fin_cases a
  · show Layout.meshLin [2, 2, 2] c.val [1] * 32768 + (i 0).val = (yOf c).val * 32768 + (i 0).val
    rw [hl]
  · show 0 * 1024 + (i 1).val = (i 1).val
    omega

/-- Both halves in either order have one sum. -/
theorem halves (X : Whole) (h : Fin 2) (i : S32768x1024.Idx) :
    half X h i + half X (1 - h) i = half X 0 i + half X 1 i := by
  fin_cases h
  · rfl
  · exact add_comm _ _

section
variable (m : (ℓ : Loc nD τ sig) → Buf (Elt Ideal) ℓ) (X : Whole)
  (hX : ∀ c : Dev nD, m ((c : Thread nD τ).loc main_arg0)
    = Layout.blockN ⟨2, ![32768, 1024]⟩ ⟨2, ![65536, 1024]⟩ (Layout.meshBlock [2, 2, 2] ![[1], []] c) X)
include hX

theorem x₀_half (c : Dev nD) : x₀ m c = half X (yOf c) := (hX c).trans (block_half X c)

/-- What a device and its neighbour along y add up to: the sum of both halves. -/
theorem sumOf_halves (d : Dev nD) (i : S32768x1024.Idx) : sumOf m d i = half X 0 i + half X 1 i := by
  have h : sumOf m d i = x₀ m d i + x₀ m (ny d) i := rfl
  rw [h, x₀_half m X hX, x₀_half m X hX, yOf_ny]
  exact halves X _ i

/-- What every device ends with. -/
theorem outv_halves (c : Dev nD) : outv m c = fun i => half X 0 i + half X 1 i :=
  funext fun i => sumOf_halves m X hX _ i
end

/-- The reference's result of the whole array. -/
theorem ref_halves (X : Whole) :
    (truncf (F := Ideal) .bf16 (Host.reduceAdd (F := Ideal) (φ := .f32) (shapeCast Cert.ReferenceIdeal.S2x32768x1024 X
        Cert.ReferenceIdeal.Gen.shapeCasts_S65536x1024_S2x32768x1024) (constant Cert.ReferenceIdeal.S_ .f32 0x00000000#32)
        Cert.ReferenceIdeal.Gen.reducesTo_S2x32768x1024_S32768x1024_d0 Cert.ReferenceIdeal.Gen.h_S_)
      Cert.ReferenceIdeal.Gen.bitsLt_bf16_f32 : S32768x1024.Idx → EReal) = fun i => half X 0 i + half X 1 i := by
  funext i
  pointwise
  exact Fin.sum_univ_two _

end Cert.AllReduce
-- ==== Proof.lean ====
/-
  The claims of the certificate, each from the modules under proof/Proof/: the kernel's run (Launch.lean), which gives both
  of its frames, the reference's run, and the equality of the two results in exact arithmetic (Value.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem

/-- The kernel as printed runs, leaves its argument as it was and every semaphore counter at zero. -/
theorem frame_kernel : Cert.quiescent_Kernel := fun m ρ _ =>
  (θ_run Cert.KernelIdeal.defs _ _).mono (fun _ h => ⟨fun c => (h.1 c).1, h.2⟩) (Cert.AllReduce.run_main (F := Bits) m ρ)

/-- The same of the kernel read in exact arithmetic. -/
theorem frame_kernelIdeal : Cert.quiescent_KernelIdeal := fun m ρ _ =>
  (θ_run Cert.KernelIdeal.defs _ _).mono (fun _ h => ⟨fun c => (h.1 c).1, h.2⟩) (Cert.AllReduce.run_main (F := Ideal) m ρ)

/-- The reference runs and leaves its argument as it was; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- In exact arithmetic every device ends with the reference's result of the whole array. -/
theorem algebraic : Cert.algebraic_KernelIdeal_ReferenceIdeal := by
  intro m ρ m' ρ' _ hX
  refine ⟨fun i => Cert.AllReduce.half (m' (((0 : Dev Cert.ReferenceIdeal.nD).tc : Thread _ Cert.ReferenceIdeal.τ).loc Cert.ReferenceIdeal.main_arg0)) 0 i
      + Cert.AllReduce.half (m' (((0 : Dev Cert.ReferenceIdeal.nD).tc : Thread _ Cert.ReferenceIdeal.τ).loc Cert.ReferenceIdeal.main_arg0)) 1 i, ?_, ?_⟩
  · exact (θ_run Cert.KernelIdeal.defs _ _).mono
      (fun _ h c => ⟨(h.1 c).2.trans (Cert.AllReduce.outv_halves m _ hX c), (h.1 c).1⟩) (Cert.AllReduce.run_main (F := Ideal) m ρ)
  · exact (θ_run Cert.ReferenceIdeal.defs _ _).mono
      (fun _ h => ⟨(h 0).1.trans (Cert.AllReduce.ref_halves _), (h 0).2⟩) (Cert.ReferenceIdeal.Value.run (F := Ideal) m' ρ')

/-- All the claims, with the programs' side conditions. -/
theorem claim : Cert.Claim := ⟨Cert.Kernel.Gen.facts, Cert.KernelIdeal.Gen.facts, Cert.ReferenceIdeal.Gen.facts,
  frame_kernel, frame_kernelIdeal, frame_reference, trivial, algebraic⟩

end Cert.Proof

end
